-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S8x512x1024 : Shape := ⟨3, ![8, 512, 1024]⟩
abbrev S4x1x1024 : Shape := ⟨3, ![4, 1, 1024]⟩
abbrev S8 : Shape := ⟨1, ![8]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1024 : Shape := ⟨1, ![1024]⟩
abbrev S1x1x1024 : Shape := ⟨3, ![1, 1, 1024]⟩
abbrev S4x1024 : Shape := ⟨2, ![4, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S1x1024, .f32⟩
  | .local _ .vmem, ⟨1, _⟩ => ⟨S8x512x1024, .f32⟩
  | .local _ .vmem, ⟨2, _⟩ => ⟨S4x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v44 : BitVec 32 := Scalar.addi v2 c1_i32_35
  let c4_i32_36 : BitVec 32 := 4#32
  let v45 : BitVec 32 := Scalar.remsi v44 c4_i32_36
  let c1_i32_38 : BitVec 32 := 1#32
  let v46 : BitVec 32 := Scalar.muli v45 c1_i32_38
  let v47 : BitVec 32 := Scalar.addi c0_i32_39 v46
  v47.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_40 : BitVec 32 := 2#32
  let v48 : BitVec 32 := Scalar.addi v2 c2_i32_40
  let c4_i32_41 : BitVec 32 := 4#32
  let v49 : BitVec 32 := Scalar.remsi v48 c4_i32_41
  let c1_i32_43 : BitVec 32 := 1#32
  let v50 : BitVec 32 := Scalar.muli v49 c1_i32_43
  let v51 : BitVec 32 := Scalar.addi c0_i32_44 v50
  v51.toNat
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_45 : BitVec 32 := 3#32
  let v52 : BitVec 32 := Scalar.addi v2 c3_i32_45
  let c4_i32_46 : BitVec 32 := 4#32
  let v53 : BitVec 32 := Scalar.remsi v52 c4_i32_46
  let c1_i32_48 : BitVec 32 := 1#32
  let v54 : BitVec 32 := Scalar.muli v53 c1_i32_48
  let v55 : BitVec 32 := Scalar.addi c0_i32_49 v54
  v55.toNat
def k0_dev4 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_125 : BitVec 32 := 1#32
  let v138 : BitVec 32 := Scalar.addi v2 c1_i32_125
  let c4_i32_126 : BitVec 32 := 4#32
  let v139 : BitVec 32 := Scalar.remsi v138 c4_i32_126
  let c1_i32_131 : BitVec 32 := 1#32
  let v140 : BitVec 32 := Scalar.muli v139 c1_i32_131
  let v141 : BitVec 32 := Scalar.addi c0_i32_132 v140
  v141.toNat
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_137 : BitVec 32 := 2#32
  let v150 : BitVec 32 := Scalar.addi v2 c2_i32_137
  let c4_i32_138 : BitVec 32 := 4#32
  let v151 : BitVec 32 := Scalar.remsi v150 c4_i32_138
  let c1_i32_143 : BitVec 32 := 1#32
  let v152 : BitVec 32 := Scalar.muli v151 c1_i32_143
  let v153 : BitVec 32 := Scalar.addi c0_i32_144 v152
  v153.toNat
def k0_dev6 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_149 : BitVec 32 := 3#32
  let v162 : BitVec 32 := Scalar.addi v2 c3_i32_149
  let c4_i32_150 : BitVec 32 := 4#32
  let v163 : BitVec 32 := Scalar.remsi v162 c4_i32_150
  let c1_i32_155 : BitVec 32 := 1#32
  let v164 : BitVec 32 := Scalar.muli v163 c1_i32_155
  let v165 : BitVec 32 := Scalar.addi c0_i32_156 v164
  v165.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Slots.lean ====
/-
The buffers of the gathered maximum, cut the way its copies cut them, and what each of them holds.

A device's block of the input is eight slabs of 512 rows; its chunk scratch eight slots, one a slab; its gather scratch
four slots, slot 0 for the device's own row of maxima and slot `d + 1` for the row of the device `d + 1` places behind it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The devices -/

set_option backward.proofsInPublic true in
/-- The device `d + 1` places ahead of `c`: the one that `c`'s transfer number `d` writes to. -/
def peer (d : Fin 3) (c : Dev nD) : Dev nD := ⟨(c.val + (d.val + 1)) % 4, Nat.mod_lt _ (by decide)⟩

set_option backward.proofsInPublic true in
/-- The device whose row of maxima slot `s` of `c`'s gather scratch ends with: the one `s` places behind `c`. -/
def sender (c : Dev nD) (s : Fin 4) : Dev nD := ⟨(c.val + (4 - s.val)) % 4, Nat.mod_lt _ (by decide)⟩

/-- The devices `d + 1` behind and `d + 1` ahead undo one another; -/
theorem peer_sender (d : Fin 3) (c : Dev nD) : peer d (sender c d.succ) = c := by revert d c; decide
/-- and the other way round; -/
theorem sender_peer (d : Fin 3) (c : Dev nD) : sender (peer d c) d.succ = c := by revert d c; decide
/-- slot 0 is the device's own; -/
theorem sender_zero (c : Dev nD) : sender c 0 = c := by revert c; decide
/-- and the device `d + 1` behind is the device `3 - d` ahead. -/
theorem peer_rev_peer (d : Fin 3) (c : Dev nD) : peer d.rev (peer d c) = c := by revert d c; decide
/-- The same with the two steps swapped. -/
theorem peer_peer_rev (d : Fin 3) (c : Dev nD) : peer d (peer d.rev c) = c := by revert d c; decide

/-- Going `d + 1` places ahead, as a permutation of the devices. -/
def turn (d : Fin 3) : Dev nD ≃ Dev nD := ⟨peer d, peer d.rev, peer_rev_peer d, peer_peer_rev d⟩

/-- The device that signal 0 names, as the kernel computes it from its own number, is the one 1 ahead; -/
theorem dev1_eq (c : Dev nD) : (⟨k0_dev1 c, k0_dev1_lt c⟩ : Dev nD) = peer 0 c := Fin.ext (k0_dev1_eq c)
/-- signal 1's is the one 2 ahead; -/
theorem dev2_eq (c : Dev nD) : (⟨k0_dev2 c, k0_dev2_lt c⟩ : Dev nD) = peer 1 c := Fin.ext (k0_dev2_eq c)
/-- signal 2's is the one 3 ahead. -/
theorem dev3_eq (c : Dev nD) : (⟨k0_dev3 c, k0_dev3_lt c⟩ : Dev nD) = peer 2 c := Fin.ext (k0_dev3_eq c)
/-- The device that send 0 writes to is the one 1 ahead; -/
theorem dev4_eq (c : Dev nD) : (⟨k0_dev4 c, k0_dev4_lt c⟩ : Dev nD) = peer 0 c := Fin.ext (k0_dev4_eq c)
/-- send 1's is the one 2 ahead; -/
theorem dev5_eq (c : Dev nD) : (⟨k0_dev5 c, k0_dev5_lt c⟩ : Dev nD) = peer 1 c := Fin.ext (k0_dev5_eq c)
/-- send 2's is the one 3 ahead. -/
theorem dev6_eq (c : Dev nD) : (⟨k0_dev6 c, k0_dev6_lt c⟩ : Dev nD) = peer 2 c := Fin.ext (k0_dev6_eq c)

/-! ## The memrefs -/

abbrev xM : Memref sig .tc .hbm S4096x1024 .f32 := Memref.whole main_arg0
abbrev oM : Memref sig .tc .vmem S1x1024 .f32 := Memref.whole cc0_stg0_0
abbrev kM : Memref sig .tc .vmem S8x512x1024 .f32 := Memref.whole cc0_scratch0
abbrev gM : Memref sig .tc .vmem S4x1x1024 .f32 := Memref.whole cc0_scratch1

/-- Every slab lies within the block, -/
theorem slab_inb (k : Fin 8) : ∀ a, (![512 * k.val, 0] : Fin 2 → ℕ) a + S512x1024.size a ≤ S4096x1024.size a := by revert k; decide
/-- every chunk slot within the chunk scratch, -/
theorem chunk_inb (k : Fin 8) : ∀ a, (![k.val, 0, 0] : Fin 3 → ℕ) a + S1x512x1024.size a ≤ S8x512x1024.size a := by revert k; decide
/-- every gather slot within the gather scratch. -/
theorem slot_inb (s : Fin 4) : ∀ a, (![s.val, 0, 0] : Fin 3 → ℕ) a + S1x1x1024.size a ≤ S4x1x1024.size a := by revert s; decide

abbrev slabR (k : Fin 8) : Rect S4096x1024 := Rect.unit (s := S4096x1024) ![512 * k.val, 0] S512x1024.size (slab_inb k)
abbrev chunkR (k : Fin 8) : Rect S8x512x1024 := Rect.unit (s := S8x512x1024) ![k.val, 0, 0] S1x512x1024.size (chunk_inb k)
abbrev slotR (s : Fin 4) : Rect S4x1x1024 := Rect.unit (s := S4x1x1024) ![s.val, 0, 0] S1x1x1024.size (slot_inb s)

/-- Slab `k` of the input block, chunk slot `k`, gather slot `s`, as the copies name them. -/
abbrev slab (k : Fin 8) : Memref sig .tc .hbm S512x1024 .f32 := xM.slice (slabR k) (fun _ => rfl)
abbrev chunk (k : Fin 8) : Memref sig .tc .vmem S512x1024 .f32 := (kM.slice (chunkR k) (fun _ => rfl)).squeeze S512x1024 squeezes_S1x512x1024_S512x1024
abbrev slot (s : Fin 4) : Memref sig .tc .vmem S1x1024 .f32 := (gM.slice (slotR s) (fun _ => rfl)).squeeze S1x1024 squeezes_S1x1x1024_S1x1024

/-! ## Their elements -/

/-- A slab's elements are those of its rectangle; -/
theorem slab_set (k : Fin 8) : (slab k).view.set = (slabR k).set := View.set_slice_whole main_arg0 (slabR k)
/-- so are a chunk slot's; -/
theorem chunk_set (k : Fin 8) : (chunk k).view.set = (chunkR k).set := by
  show (((View.whole cc0_scratch0).slice (chunkR k)).reshape _ _).set = _
  rw [View.set_reshape]; exact View.set_slice_whole cc0_scratch0 (chunkR k)
/-- and a gather slot's. -/
theorem slot_set (s : Fin 4) : (slot s).view.set = (slotR s).set := by
  show (((View.whole cc0_scratch1).slice (slotR s)).reshape _ _).set = _
  rw [View.set_reshape]; exact View.set_slice_whole cc0_scratch1 (slotR s)

/-- An element is in slab `k` when its row is one of the 512 from `512 k` on; -/
theorem mem_slab {k : Fin 8} {i : S4096x1024.Idx} : i ∈ (slabR k).set ↔ 512 * k.val ≤ (i 0).val ∧ (i 0).val < 512 * k.val + 512 := by
  rw [Rect.mem_set_unit]
  have h1 : (i 1).val < 1024 := (i 1).isLt
  constructor
  · intro h; exact h 0
  · intro h a
    match a with
    | ⟨0, _⟩ => exact h
    | ⟨1, _⟩ => exact ⟨Nat.zero_le _, by show (i 1).val < 0 + 1024; omega⟩
/-- in chunk slot `k` when its first coordinate is `k`; -/
theorem mem_chunk {k : Fin 8} {i : S8x512x1024.Idx} : i ∈ (chunkR k).set ↔ (i 0).val = k.val := by
  rw [Rect.mem_set_unit]
  have h1 : (i 1).val < 512 := (i 1).isLt
  have h2 : (i 2).val < 1024 := (i 2).isLt
  constructor
  · intro h
    have h0 : k.val ≤ (i 0).val ∧ (i 0).val < k.val + 1 := h 0
    omega
  · intro h a
    match a with
    | ⟨0, _⟩ => exact ⟨by show k.val ≤ (i 0).val; omega, by show (i 0).val < k.val + 1; omega⟩
    | ⟨1, _⟩ => exact ⟨Nat.zero_le _, by show (i 1).val < 0 + 512; omega⟩
    | ⟨2, _⟩ => exact ⟨Nat.zero_le _, by show (i 2).val < 0 + 1024; omega⟩
/-- in gather slot `s` when its first coordinate is `s`. -/
theorem mem_slot {s : Fin 4} {i : S4x1x1024.Idx} : i ∈ (slotR s).set ↔ (i 0).val = s.val := by
  rw [Rect.mem_set_unit]
  have h1 : (i 1).val < 1 := (i 1).isLt
  have h2 : (i 2).val < 1024 := (i 2).isLt
  constructor
  · intro h
    have h0 : s.val ≤ (i 0).val ∧ (i 0).val < s.val + 1 := h 0
    omega
  · intro h a
    match a with
    | ⟨0, _⟩ => exact ⟨by show s.val ≤ (i 0).val; omega, by show (i 0).val < s.val + 1; omega⟩
    | ⟨1, _⟩ => exact ⟨Nat.zero_le _, by show (i 1).val < 0 + 1; omega⟩
    | ⟨2, _⟩ => exact ⟨Nat.zero_le _, by show (i 2).val < 0 + 1024; omega⟩

/-- The eight slabs are the whole block, no two of them sharing an element; the chunk slots and the gather slots likewise. -/
theorem slabs_cover : ((Finset.univ : Finset (Fin 8)).biUnion fun k => (slab k).view.set) = (Finset.univ : Finset S4096x1024.Idx) := by
  ext i
  simp only [Finset.mem_biUnion, Finset.mem_univ, true_and, iff_true]
  have h : (i 0).val < 4096 := (i 0).isLt
  refine ⟨⟨(i 0).val / 512, by omega⟩, ?_⟩
  rw [slab_set, mem_slab]; dsimp only; omega
/-- No two slabs share an element. -/
theorem slabs_disjoint (k k' : Fin 8) (h : k ≠ k') : Disjoint (slab k).view.set (slab k').view.set := by
  rw [slab_set, slab_set, Finset.disjoint_left]
  intro i hi hi'
  rw [mem_slab] at hi hi'
  exact h (Fin.ext (by omega))
/-- The chunk slots are the whole chunk scratch, -/
theorem chunks_cover : ((Finset.univ : Finset (Fin 8)).biUnion fun k => (chunk k).view.set) = (Finset.univ : Finset S8x512x1024.Idx) := by
  ext i
  simp only [Finset.mem_biUnion, Finset.mem_univ, true_and, iff_true]
  exact ⟨⟨(i 0).val, (i 0).isLt⟩, by rw [chunk_set, mem_chunk]⟩
/-- and no two share an element. -/
theorem chunks_disjoint (k k' : Fin 8) (h : k ≠ k') : Disjoint (chunk k).view.set (chunk k').view.set := by
  rw [chunk_set, chunk_set, Finset.disjoint_left]
  intro i hi hi'
  rw [mem_chunk] at hi hi'
  exact h (Fin.ext (by omega))
/-- The gather slots are the whole gather scratch, -/
theorem slots_cover : ((Finset.univ : Finset (Fin 4)).biUnion fun s => (slot s).view.set) = (Finset.univ : Finset S4x1x1024.Idx) := by
  ext i
  simp only [Finset.mem_biUnion, Finset.mem_univ, true_and, iff_true]
  exact ⟨⟨(i 0).val, (i 0).isLt⟩, by rw [slot_set, mem_slot]⟩
/-- and no two share an element. -/
theorem slots_disjoint (s s' : Fin 4) (h : s ≠ s') : Disjoint (slot s).view.set (slot s').view.set := by
  rw [slot_set, slot_set, Finset.disjoint_left]
  intro i hi hi'
  rw [mem_slot] at hi hi'
  exact h (Fin.ext (by omega))

/-! ## What they hold -/

variable (m : (ℓ : Loc nD τ sig) → Buf (Elt F) ℓ)

/-- Device `c`'s block of the input at launch. -/
def xblk (c : Dev nD) : Buf (Elt F) ((c : Thread nD τ).loc main_arg0) := m ((c : Thread nD τ).loc main_arg0)

/-- Slab `k` of it, as the copy reads it, -/
def slabV (c : Dev nD) (k : Fin 8) : S512x1024.Idx → Elt F .f32 := (slab k).view.read (Elt F) (xblk m c)

/-- A slab has as many elements as the loaded chunk, which has one more axis of size one. -/
theorem chunk_casts : S512x1024.ShapeCasts S1x512x1024 := by decide

/-- and as the body loads it out of chunk slot `k`. -/
def chunkV (c : Dev nD) (k : Fin 8) : Vec F S1x512x1024 .f32 := shapeCast S1x512x1024 (slabV m c k) chunk_casts

/-- The row of maxima that device `c` computes from its block. -/
def part (c : Dev nD) : Vec F S1x1x1024 .f32 :=
  k0_pay5 (k0_pay3 (k0_pay2 (k0_pay1 (chunkV m c 0) (chunkV m c 1)) (chunkV m c 2) (chunkV m c 3) (chunkV m c 4)) (chunkV m c 5) (chunkV m c 6))
    (k0_pay4 (chunkV m c 7))

set_option backward.proofsInPublic true in
/-- The index of a gather scratch's element within its slot. -/
def inSlot (i : S4x1x1024.Idx) : S1x1x1024.Idx := fun a => match a with
  | ⟨0, _⟩ => (⟨0, by decide⟩ : Fin 1)
  | ⟨1, _⟩ => i 1
  | ⟨2, _⟩ => i 2

/-- Device `c`'s gather scratch once every row has come in. -/
def gat (c : Dev nD) : Buf (Elt F) ((c : Thread nD τ).loc cc0_scratch1) := fun i => part m (sender c (i 0)) (inSlot i)

/-- The kernel's result on device `c`. -/
def outAt (c : Dev nD) : (cc0_stg0_0 : Ref sig .tc).ty.Contents (Elt F) := k0_pay6 (gat m c)

/-- An element of a slot, placed in the scratch: its slot, and where in it. -/
theorem slotR_emb_zero (s : Fin 4) (y : S1x1x1024.Idx) : ((slotR s).emb y) 0 = s := by
  refine Fin.ext ?_
  rw [Rect.emb_apply]
  have h : (y 0).val < 1 := (y 0).isLt
  show s.val + 1 * (y 0).val = s.val
  omega
/-- The other half: an element's place within the slot it was placed in is where it came from. -/
theorem inSlot_emb (s : Fin 4) (y : S1x1x1024.Idx) : inSlot ((slotR s).emb y) = y := by
  refine funext fun a => Fin.ext ?_
  match a with
  | ⟨0, _⟩ => have h : (y 0).val < 1 := (y 0).isLt; show 0 = (y 0).val; omega
  | ⟨1, _⟩ => show (((slotR s).emb y) 1).val = (y 1).val; rw [Rect.emb_apply]; show 0 + 1 * (y 1).val = _; omega
  | ⟨2, _⟩ => show (((slotR s).emb y) 2).val = (y 2).val; rw [Rect.emb_apply]; show 0 + 1 * (y 2).val = _; omega

/-- The gather scratch read within slot `s` is the row of the slot's sender. -/
theorem gat_emb (c : Dev nD) (s : Fin 4) (y : S1x1x1024.Idx) : gat m c ((slotR s).emb y) = part m (sender c s) y := by
  unfold gat; rw [slotR_emb_zero, inSlot_emb]

/-- The copy of a device's own row into slot `d + 1` of the device `d + 1` ahead leaves there what that device's gather
    scratch is to hold. -/
theorem landed_eq (c : Dev nD) (d : Fin 3) (f : Buf (Elt F) ((slot d.succ).view.loc (peer d c : Thread nD τ))) :
    ∀ i ∈ (slot d.succ).view.set,
      (slot d.succ).view.write (Elt F) f ((slot 0).view.read (Elt F) (gat m c)) Finset.univ i = gat m (peer d c) i := by
  intro i hi
  obtain ⟨x, -, rfl⟩ := Finset.mem_map.mp hi
  refine (View.write_emb_of_mem _ _ (Finset.mem_univ x)).trans ?_
  show gat m c ((slotR 0).emb _) = gat m (peer d c) ((slotR d.succ).emb _)
  rw [gat_emb, gat_emb, sender_peer, sender_zero]

/-- The store of a device's row into slot 0 leaves there what its gather scratch is to hold. -/
theorem stored_eq (c : Dev nD) (f : Buf (Elt F) ((c : Thread nD τ).loc cc0_scratch1)) :
    ∀ i ∈ (slot 0).view.set, (gM.access (slotR 0)).write (Elt F) f (part m c) Finset.univ i = gat m c i := by
  intro i hi
  rw [slot_set, ← Rect.map_emb_univ] at hi
  obtain ⟨y, -, rfl⟩ := Finset.mem_map.mp hi
  rw [gat_emb, sender_zero]
  exact View.write_emb_of_mem (v := gM.access (slotR 0)) f _ (Finset.mem_univ y)

/-- The load out of chunk slot `k` once its copy has landed. -/
theorem load_chunk (c : Dev nD) (k : Fin 8) (f : Buf (Elt F) ((chunk k).view.loc (c : Thread nD τ))) :
    kM.view.readAt (Elt F) (chunkR k).toLoadRect ((chunk k).view.write (Elt F) f (slabV m c k) Finset.univ) = chunkV m c k := by
  have h := Memref.read_squeeze_slice (Val := Elt F) kM (chunkR k) (fun _ => rfl) squeezes_S1x512x1024_S512x1024 shapeCasts_S1x512x1024_S512x1024
    ((chunk k).view.write (Elt F) f (slabV m c k) Finset.univ)
  have h' := h.symm.trans (View.read_write_univ _ _)
  exact ((congrArg (fun v => shapeCast S1x512x1024 v chunk_casts) h').symm.trans (shapeCast_shapeCast _ _ _)).symm

end Cert.KernelIdealProof

end
-- ==== Proof.Proto.lean ====
/-
The protocol of the gathered maximum: its semaphore cells, what each round of them hands over, what each device owes.

Before it sends, a device waits on its barrier cell for a unit of each of the three others: with its unit a device hands
over the slot of its gather scratch that the waiter will write. A send then pays the receive cell of the device written
to, with the slot at the row it is to hold, and the sender's own send cell, with the part of slot 0 it read through.
-/
module

public import proofs.«01_k».proof.Proof.Slots
public import Idealize.ShloMosaic.Lib.Transfers

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)
open Idealize.ShloMosaic.Pipeline (Dat Cfg Window BodyObligation cellOf)

variable {F : FTy → Type} [FloatOps F]

/-! ## The resource algebra: the pipeline library's rounds, this protocol's rounds, and counters for the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## The cells -/

/-- The runtime's barrier semaphore; -/
abbrev barS : Sem sig := (SemArray.scalar (sig.barrier 0 rfl) : Sems sig S_).sem

/-- The local copies' semaphores lie within their array; -/
theorem locS_inb (k : Fin 8) : ∀ a, (![k.val] : Fin 1 → ℕ) a + S1.size a ≤ S8.size a := by revert k; decide
/-- so do the sends' and the receipts'. -/
theorem sndS_inb (d : Fin 3) : ∀ a, (![d.val] : Fin 1 → ℕ) a + S1.size a ≤ S3.size a := by revert d; decide

/-- the semaphore of slab `k`'s copy; of send `d`; of the receipt of send `d`. -/
abbrev locS (k : Fin 8) : DmaSem sig := ((cc0_scratch2.slice (Rect.unit (s := S8) ![k.val] S1.size (locS_inb k))).squeeze S_ squeezes_S1_S_).sem
abbrev sndS (d : Fin 3) : DmaSem sig := ((cc0_scratch3.slice (Rect.unit (s := S3) ![d.val] S1.size (sndS_inb d))).squeeze S_ squeezes_S1_S_).sem
abbrev rcvS (d : Fin 3) : DmaSem sig := ((cc0_scratch4.slice (Rect.unit (s := S3) ![d.val] S1.size (sndS_inb d))).squeeze S_ squeezes_S1_S_).sem

/-- The kinds of cells the protocol runs on: the barrier, a send, a receipt. -/
inductive CK where
  | bar
  | snd (d : Fin 3)
  | rcv (d : Fin 3)
deriving DecidableEq

def CK.all : List CK := [.bar, .snd 0, .snd 1, .snd 2, .rcv 0, .rcv 1, .rcv 2]
/-- The list of kinds repeats none, -/
theorem CK.all_nodup : CK.all.Nodup := by decide
/-- and leaves none out. -/
theorem CK.mem_all (k : CK) : k ∈ CK.all := by
  cases k with
  | bar => decide
  | snd d => revert d; decide
  | rcv d => revert d; decide
instance : Fintype CK := ⟨⟨CK.all, CK.all_nodup⟩, CK.mem_all⟩

def csem : CK → SemLoc sig
  | .bar => .reg barS
  | .snd d => .dma (sndS d)
  | .rcv d => .dma (rcvS d)

/-- The kind of a semaphore's cell, if the protocol runs on it. -/
def kindOf (s : SemLoc sig) : Option CK := CK.all.find? fun k => decide (csem k = s)

/-- A protocol cell's semaphore has the kind it was made from; -/
theorem kindOf_csem (k : CK) : kindOf (csem k) = some k := by revert k; decide
/-- a local copy's has none. -/
theorem kindOf_loc (k : Fin 8) : kindOf (.dma (locS k)) = none := by revert k; decide

abbrev kcell (ck : Dev nD × CK) : GSem nD τ sig := ((ck.1 : Thread nD τ), csem ck.2)
abbrev barCell (c : Dev nD) : GSem nD τ sig := kcell (c, .bar)
abbrev sndCell (d : Fin 3) (c : Dev nD) : GSem nD τ sig := kcell (c, .snd d)
abbrev rcvCell (d : Fin 3) (c : Dev nD) : GSem nD τ sig := kcell (c, .rcv d)
abbrev locCell (k : Fin 8) (c : Dev nD) : GSem nD τ sig := ((c : Thread nD τ), .dma (locS k))

/-- Different kinds are different semaphores; -/
theorem csem_injective : Function.Injective csem := fun k k' h => by
  have := congrArg kindOf h
  rw [kindOf_csem, kindOf_csem] at this
  exact Option.some.inj this
/-- different devices and kinds are different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of a row's transfer, and of a slab's. -/
abbrev N : ℕ := (slot 0).view.dmaCredit
/-- A row's credit is positive. -/
theorem N_pos : 0 < N := View.dmaCredit_pos _ (by decide)
abbrev NL : ℕ := (chunk 0).view.dmaCredit
/-- A slab's credit is positive. -/
theorem NL_pos : 0 < NL := View.dmaCredit_pos _ (by decide)

/-! ## The pieces a device holds -/

/-- Slot `s` of `c`'s gather scratch at a share and contents; its chunk slot `k`; its input's slab `k`. -/
def slotPts (q : PosShare TreeShare) (c : Dev nD) (s : Fin 4) (f : Buf (Elt F) ((c : Thread nD τ).loc cc0_scratch1)) : sProp 𝕄 :=
  (slot s).view.loc (c : Thread nD τ) ↦[(slot s).view.set]{q} f
def chunkPts (c : Dev nD) (k : Fin 8) (f : Buf (Elt F) ((c : Thread nD τ).loc cc0_scratch0)) : sProp 𝕄 :=
  (chunk k).view.loc (c : Thread nD τ) ↦[(chunk k).view.set]{fullShare} f
def slabPts (c : Dev nD) (k : Fin 8) : sProp 𝕄 :=
  (slab k).view.loc (c : Thread nD τ) ↦[(slab k).view.set]{fullShare} xblk m c

instance slotPts_storable (q) (c : Dev nD) (s : Fin 4) (f) : BI.Storable (upEmb : UEmb _ 𝕄) (slotPts (F := F) q c s f) := by unfold slotPts; infer_instance

/-! ## The schedule -/

/-- What the units and transfers into each kind of cell hand the device that waits there. -/
def pay (c : Dev nD) : CK → Fin 3 → sProp 𝕄
  | .bar, j => iprop(∃ f, slotPts fullShare (peer j.rev c) j.rev.succ f)
  | .snd d, _ => slotPts (shareTokN fullShare d.val) c 0 (gat m c)
  | .rcv d, _ => slotPts fullShare c d.succ (gat m c)

instance pay_storable (c : Dev nD) (k : CK) (j : Fin 3) : BI.Storable (upEmb : UEmb _ 𝕄) (pay (F := F) m c k j) := by
  cases k <;> (unfold pay; infer_instance)

/-- The duties of a kind of cell: one for each other device, or one. -/
def dutiesOf : CK → Finset (Fin 3)
  | .bar => Finset.univ
  | .snd _ => {0}
  | .rcv _ => {0}
/-- A unit, or a row's credit. -/
def unitOf : CK → ℕ
  | .bar => 1
  | .snd _ => N
  | .rcv _ => N

/-- Every duty pays something. -/
theorem unitOf_pos (k : CK) : 0 < unitOf k := by
  cases k
  · exact Nat.one_pos
  · exact N_pos
  · exact N_pos

/-- One round, round 0. -/
def sched : Rounds.Schedule (GSem nD τ sig) (Fin 3) 𝕄 where
  duties g r := if r = 0 ∧ g.1.2 = .tc then (kindOf g.2).elim ∅ dutiesOf else ∅
  unitless _ := False
  amount g _ _ := (kindOf g.2).elim 1 unitOf
  payload g _ d := (kindOf g.2).elim iprop(emp) fun k => pay m g.1.1 k d
  amount_pos g _ _ _ := by
    cases h : kindOf g.2 with
    | none => exact Nat.one_pos
    | some k => exact unitOf_pos k

instance sched_payload_storable (g : GSem nD τ sig) (r : ℕ) (d : Fin 3) : BI.Storable (upEmb : UEmb _ 𝕄) ((sched (F := F) m).payload g r d) := by
  show BI.Storable upEmb ((kindOf g.2).elim iprop(emp) fun k => pay m g.1.1 k d)
  cases h : kindOf g.2 with
  | none => show BI.Storable upEmb iprop(emp); infer_instance
  | some k => exact pay_storable m g.1.1 k d

section Sched
variable (c : Dev nD) (k : CK)

/-- A cell's duties in round 0; -/
theorem duties_eq : (sched (F := F) m).duties (kcell (c, k)) 0 = dutiesOf k := by
  show (if (0 : ℕ) = 0 ∧ (kcell (c, k)).1.2 = .tc then (kindOf (csem k)).elim ∅ dutiesOf else ∅) = _
  rw [if_pos ⟨rfl, rfl⟩, kindOf_csem]; rfl
/-- no cell has any later. -/
theorem duties_later (g : GSem nD τ sig) : ∀ r, 1 ≤ r → (sched (F := F) m).duties g r = ∅ := fun r hr => by
  show (if r = 0 ∧ g.1.2 = .tc then _ else ∅) = _
  rw [if_neg fun h => by omega]
/-- What a duty pays, -/
theorem amount_eq (d : Fin 3) : (sched (F := F) m).amount (kcell (c, k)) 0 d = unitOf k := by
  show (kindOf (csem k)).elim 1 unitOf = _
  rw [kindOf_csem]; rfl
/-- and what it hands over. -/
theorem payload_eq (d : Fin 3) : (sched (F := F) m).payload (kcell (c, k)) 0 d = pay m c k d := by
  show (kindOf (csem k)).elim iprop(emp) (fun k => pay m c k d) = _
  rw [kindOf_csem]; rfl
/-- A round expects its duties' units. -/
theorem expect_eq : (sched (F := F) m).expect (kcell (c, k)) 0 = (dutiesOf k).card * unitOf k := by
  unfold Schedule.expect Schedule.amountOf
  rw [duties_eq, Finset.sum_congr rfl fun d _ => amount_eq m c k d, Finset.sum_const, smul_eq_mul]
/-- The whole of a round's payloads. -/
theorem rest_eq : bigSep ((sched (F := F) m).duties (kcell (c, k)) 0 \ ∅) (fun d => (sched (F := F) m).payload (kcell (c, k)) 0 d)
    = bigSep (dutiesOf k) (pay m c k) := by
  rw [Finset.sdiff_empty, duties_eq]
  exact bigSep_congr fun d _ => payload_eq m c k d

end Sched

/-! ## What each device owes at launch; the levels -/

/-- The receipts `c` still owes once its sends before number `i` are out; -/
def owedR (c : Dev nD) : ℕ → CellTallies nD τ sig Unit
  | 0 => ((0 + tallyAt (rcvCell 2 (peer 2 c)) () N) + tallyAt (rcvCell 1 (peer 1 c)) () N) + tallyAt (rcvCell 0 (peer 0 c)) () N
  | 1 => (0 + tallyAt (rcvCell 2 (peer 2 c)) () N) + tallyAt (rcvCell 1 (peer 1 c)) () N
  | 2 => 0 + tallyAt (rcvCell 2 (peer 2 c)) () N
  | _ => 0
/-- and with them the barrier units it owes once its signals before number `i` are out. -/
def owedB (c : Dev nD) : ℕ → CellTallies nD τ sig Unit
  | 0 => ((owedR c 0 + tallyAt (barCell (peer 2 c)) () 1) + tallyAt (barCell (peer 1 c)) () 1) + tallyAt (barCell (peer 0 c)) () 1
  | 1 => (owedR c 0 + tallyAt (barCell (peer 2 c)) () 1) + tallyAt (barCell (peer 1 c)) () 1
  | 2 => owedR c 0 + tallyAt (barCell (peer 2 c)) () 1
  | _ => owedR c 0
abbrev O₀ (c : Dev nD) : CellTallies nD τ sig Unit := owedB c 0

def L (g : GSem nD τ sig) : Finset Unit := if g.1.2 = .tc then {()} else ∅
/-- Barrier cells at 1, receipts at 2, everything else at 0. -/
def lvK : Option CK → ℕ
  | some .bar => 1
  | some (.rcv _) => 2
  | _ => 0
def lv (g : GSem nD τ sig) (_ : Unit) : ℕ := lvK (kindOf g.2)

/-- Only the TensorCores' cells have a level, -/
theorem L_of_ne (g : GSem nD τ sig) (h : g.1.2 ≠ .tc) : L g = ∅ := if_neg h
/-- and each of those has one. -/
theorem L_tc (c : Dev nD) (sm : SemLoc sig) : L ((c : Thread nD τ), sm) = {()} := if_pos rfl
/-- A protocol cell's level is that of its kind. -/
theorem lv_kcell (c : Dev nD) (k : CK) (u : Unit) : lv (kcell (c, k)) u = lvK (some k) := by
  show lvK (kindOf (csem k)) = _
  rw [kindOf_csem]

/-- Two cells are equal exactly when their devices and kinds are. -/
theorem kcell_eq_iff {a b : Dev nD × CK} : kcell a = kcell b ↔ a = b := ⟨fun h => kcell_injective h, fun h => h ▸ rfl⟩

/-- What `c` owes is owed to the receipts of its own sends, -/
theorem owedR_pos {c : Dev nD} {g : GSem nD τ sig} {u : Unit} (h : 0 < owedR c 0 g u) : ∃ d, g = rcvCell d (peer d c) := by
  unfold owedR at h
  simp only [Pi.add_apply, Finsupp.add_apply, tallyAt_apply] at h
  by_contra hn
  rw [not_exists] at hn
  rw [if_neg (fun h' => hn 2 h'.1), if_neg (fun h' => hn 1 h'.1), if_neg (fun h' => hn 0 h'.1)] at h
  exact Nat.lt_irrefl 0 h
/-- and to the others' barrier cells. -/
theorem O₀_pos {c : Dev nD} {g : GSem nD τ sig} {u : Unit} (h : 0 < O₀ c g u) : (∃ d, g = rcvCell d (peer d c)) ∨ ∃ j, g = barCell (peer j c) := by
  by_contra hn
  rw [not_or] at hn
  have hR : owedR c 0 g u = 0 := Nat.eq_zero_of_not_pos fun h' => hn.1 (owedR_pos h')
  have hB := hn.2
  rw [not_exists] at hB
  unfold O₀ owedB at h
  simp only [Pi.add_apply, Finsupp.add_apply, tallyAt_apply, hR] at h
  rw [if_neg (fun h' => hB 2 h'.1), if_neg (fun h' => hB 1 h'.1), if_neg (fun h' => hB 0 h'.1)] at h
  exact Nat.lt_irrefl 0 h

/-- A wait on a cell below everything owed is one the levels allow. -/
theorem mayWait_below (c : Dev nD) (sm : SemLoc sig) (O : CellTallies nD τ sig Unit) (n : ℕ) (hn : lvK (kindOf sm) ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hn)
    (fun g u hg => (hO g u hg).2)

/-- At its local copies' waits and at its barrier wait a device owes its sends' receipts, which lie above both. -/
theorem mayWait_owedR (c : Dev nD) (sm : SemLoc sig) (hsm : lvK (kindOf sm) ≤ 1) :
    (levAts L lv : sProp 𝕄) ⊢ MayWait (c : Thread nD τ) sm () (owedR c 0) :=
  mayWait_below c sm _ 1 hsm fun g u hg => by
    obtain ⟨d, rfl⟩ := owedR_pos hg
    exact ⟨rfl, by rw [lv_kcell]; exact Nat.lt_succ_self 1⟩
/-- A staging cell's wait comes below all of it, or with nothing owed. -/
theorem mayWait_stage (c : Dev nD) (sm : SemLoc sig) (hsm : kindOf sm = none) (O : CellTallies nD τ sig Unit) (hO : O = O₀ c ∨ O = 0) :
    (levAts L lv : sProp 𝕄) ⊢ MayWait (c : Thread nD τ) sm () O := by
  rcases hO with rfl | rfl
  · refine mayWait_below c sm _ 0 (by rw [hsm]; exact le_refl _) fun g u hg => ?_
    rcases O₀_pos hg with ⟨d, rfl⟩ | ⟨j, rfl⟩
    · exact ⟨rfl, by rw [lv_kcell]; exact Nat.zero_lt_succ 1⟩
    · exact ⟨rfl, by rw [lv_kcell]; exact Nat.zero_lt_succ 0⟩
  · rw [MayWait_zero]; iintro -; iempintro

/-! ## What a device starts with and ends with -/

/-- The cells' invariants, under the names `K` they are allocated at, and that each has reached round 0: every device knows all of them. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

/-- Out of all cells' invariants, the one of `ck`; -/
theorem inv_of_all (K : Dev nD × CK → ℕ) (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
/-- out of all rounds reached, the one of `ck`. -/
theorem reached_of_all (ck : Dev nD × CK) :
    (bigSep Finset.univ fun ck : Dev nD × CK => (reached ER (kcell ck) 0 : sProp 𝕄)) ⊢ reached ER (kcell ck) 0 :=
  bigSep_elim (Finset.mem_univ ck)
/-- A device that holds the records knows any cell's invariant, -/
theorem inv_at (K : Dev nD × CK → ℕ) (ck : Dev nD × CK) : records m K ⊢ cellInv ER (sched m) (K ck) (kcell ck) := by
  unfold records
  iintro ⟨H, -⟩
  iapply (inv_of_all m K ck); iexact H
/-- and that any cell has reached round 0. -/
theorem reached_at (K : Dev nD × CK → ℕ) (ck : Dev nD × CK) : records m K ⊢ reached ER (kcell ck) 0 := by
  unfold records
  iintro ⟨-, H⟩
  iapply (reached_of_all (F := F) ck); iexact H

/-- The tokens of the duties device `c` pays: a unit to each other barrier, its sends' receipts, its own sends. -/
def payToks (c : Dev nD) : sProp 𝕄 :=
  iprop((bigSep Finset.univ fun j : Fin 3 => dutyTok ER (barCell (peer j c)) 0 j)
    ∗ (bigSep Finset.univ fun d : Fin 3 => dutyTok ER (rcvCell d (peer d c)) 0 0)
    ∗ bigSep Finset.univ fun d : Fin 3 => dutyTok ER (sndCell d c) 0 0)

/-- What of the protocol is device `c`'s alone: its positions, and those tokens. -/
def linear (c : Dev nD) : sProp 𝕄 :=
  iprop((bigSep Finset.univ fun k : CK => atPos ER (kcell (c, k)) 0 ∅ 0) ∗ payToks c)

/-- The local cells at zero. -/
def locs0 (c : Dev nD) : sProp 𝕄 := bigSep Finset.univ fun k : Fin 8 => semVal (locCell k c) 0

/-- Device `c`'s input block, as launched. -/
def xPts (c : Dev nD) : sProp 𝕄 := ((c : Thread nD τ).loc main_arg0) ↦{fullShare} xblk m c

/-- The credit a device waits with: its barrier's three units, its three receipts. -/
def credit (c : Dev nD) : sProp 𝕄 :=
  iprop(cred (tallyAt (barCell c) () 3) ∗ bigSep Finset.univ fun d : Fin 3 => cred (tallyAt (rcvCell d c) () N))

def start (c : Dev nD) : sProp 𝕄 :=
  iprop((∃ K, records m K ∗ linear c) ∗ locs0 c ∗ credit c ∗ levAts L lv ∗ xPts m c)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the body every cell is closed at zero, the scratch is back and the input is as it was. -/
def Φ₁ (c : Dev nD) : sProp 𝕄 :=
  iprop(scratch c ∗ locs0 c ∗ (bigSep Finset.univ fun k : CK => semVal (kcell (c, k)) 0) ∗ xPts m c)

/-! ## The pipeline's proof data -/

/-- The call has one step, -/
theorem cfg0_N : cfg0.N = 1 := by decide
def t₀ : Fin cfg0.N := ⟨0, by rw [cfg0_N]; decide⟩
/-- which is the only one there is. -/
theorem fin_N (t : Fin cfg0.N) : t = t₀ := by
  have h : t.val < 1 := t.isLt.trans_eq cfg0_N
  exact Fin.ext (Nat.lt_one_iff.mp h)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- A conjunction over three, written out; -/
theorem bigSep_fin3 (Φ : Fin 3 → sProp 𝕄) : bigSep Finset.univ Φ = iprop(Φ 0 ∗ Φ 1 ∗ Φ 2) :=
  bigSep_univ_eq_bigSepL (List.finRange 3) (List.toFinset_finRange 3).symm (List.nodup_finRange 3) Φ
/-- over four; -/
theorem bigSep_fin4 (Φ : Fin 4 → sProp 𝕄) : bigSep Finset.univ Φ = iprop(Φ 0 ∗ Φ 1 ∗ Φ 2 ∗ Φ 3) :=
  bigSep_univ_eq_bigSepL (List.finRange 4) (List.toFinset_finRange 4).symm (List.nodup_finRange 4) Φ
/-- over eight; -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL (List.finRange 8) (List.toFinset_finRange 8).symm (List.nodup_finRange 8) Φ
/-- over the kinds of cells. -/
theorem bigSep_CK (Φ : CK → sProp 𝕄) :
    bigSep Finset.univ Φ = iprop(Φ .bar ∗ Φ (.snd 0) ∗ Φ (.snd 1) ∗ Φ (.snd 2) ∗ Φ (.rcv 0) ∗ Φ (.rcv 1) ∗ Φ (.rcv 2)) :=
  bigSep_univ_eq_bigSepL CK.all (by decide) (by decide) Φ

/-! ## Cutting the buffers and joining them -/

/-- The input block is its slabs; -/
theorem xPts_slabs (c : Dev nD) : xPts m c = bigSep Finset.univ fun k : Fin 8 => slabPts m c k := by
  unfold xPts slabPts
  exact (congrArg (fun S => (((c : Thread nD τ).loc main_arg0) ↦[S]{fullShare} xblk m c : sProp 𝕄)) slabs_cover.symm).trans
    (pointsTo_biUnion _ _ fun k _ k' _ h => slabs_disjoint k k' h)
/-- the chunk scratch its slots, -/
theorem chunks_cut (c : Dev nD) (f : Buf (Elt F) ((c : Thread nD τ).loc cc0_scratch0)) :
    (((c : Thread nD τ).loc cc0_scratch0) ↦{fullShare} f : sProp 𝕄) = bigSep Finset.univ fun k : Fin 8 => chunkPts c k f := by
  unfold chunkPts
  exact (congrArg (fun S => (((c : Thread nD τ).loc cc0_scratch0) ↦[S]{fullShare} f : sProp 𝕄)) chunks_cover.symm).trans
    (pointsTo_biUnion _ _ fun k _ k' _ h => chunks_disjoint k k' h)
/-- which join whatever each holds; -/
theorem chunks_join (c : Dev nD) (fs : Fin 8 → Buf (Elt F) ((c : Thread nD τ).loc cc0_scratch0)) :
    (bigSep Finset.univ fun k : Fin 8 => chunkPts c k (fs k))
      ⊢ (iprop(∃ f : Buf (Elt F) ((c : Thread nD τ).loc cc0_scratch0), ((c : Thread nD τ).loc cc0_scratch0) ↦{fullShare} f) : sProp 𝕄) := by
  have h := pointsTo_biUnion_join (nD := nD) (τ := τ) (sig := sig) (Ix := Unit) (Val := Elt F) (Name := ℕ) (U := UU) (Lvl := ℕ)
    (ℓ := (c : Thread nD τ).loc cc0_scratch0) (q := fullShare) (Finset.univ : Finset (Fin 8)) (fun k => (chunk k).view.set) fs (fs 0)
    fun k _ k' _ h => chunks_disjoint k k' h
  rw [chunks_cover] at h
  refine BIBase.Entails.trans (show _ ⊢ _ from h) ?_
  iintro ⟨%g, -, H⟩
  iexists g; iexact H
/-- the gather scratch its slots, at any share. -/
theorem slots_cut (q : PosShare TreeShare) (c : Dev nD) (f : Buf (Elt F) ((c : Thread nD τ).loc cc0_scratch1)) :
    (((c : Thread nD τ).loc cc0_scratch1) ↦{q} f : sProp 𝕄) = bigSep Finset.univ fun s : Fin 4 => slotPts q c s f := by
  unfold slotPts
  exact (congrArg (fun S => (((c : Thread nD τ).loc cc0_scratch1) ↦[S]{q} f : sProp 𝕄)) slots_cover.symm).trans
    (pointsTo_biUnion _ _ fun s _ s' _ h => slots_disjoint s s' h)
/-- A slot is what remains of it after three read shares, and the shares. -/
theorem slot_shares (c : Dev nD) (s : Fin 4) (f : Buf (Elt F) ((c : Thread nD τ).loc cc0_scratch1)) :
    (slotPts fullShare c s f : sProp 𝕄)
      ⊣⊢ iprop(slotPts (shareDrop fullShare 3) c s f ∗ bigSep Finset.univ fun d : Fin 3 => slotPts (shareTokN fullShare d.val) c s f) :=
  Transfers.pointsTo_toks fullShare 3

/-- What of the slots beyond the first stays aside while the gather scratch is read whole. -/
def aside (c : Dev nD) (f : Buf (Elt F) ((c : Thread nD τ).loc cc0_scratch1)) : sProp 𝕄 :=
  iprop((bigSep Finset.univ fun d : Fin 3 => slotPts (shareTokN fullShare d.val) c 1 f)
    ∗ (bigSep Finset.univ fun d : Fin 3 => slotPts (shareTokN fullShare d.val) c 2 f)
    ∗ bigSep Finset.univ fun d : Fin 3 => slotPts (shareTokN fullShare d.val) c 3 f)

/-- With slot 0 lent out in three read shares, the gather scratch is still held whole at what remains of it; -/
theorem gather_lend (c : Dev nD) (f : Buf (Elt F) ((c : Thread nD τ).loc cc0_scratch1)) :
    iprop(slotPts (shareDrop fullShare 3) c 0 f ∗ slotPts fullShare c 1 f ∗ slotPts fullShare c 2 f ∗ slotPts fullShare c 3 f)
      ⊢ (iprop((((c : Thread nD τ).loc cc0_scratch1) ↦{shareDrop fullShare 3} f) ∗ aside c f) : sProp 𝕄) := by
  rw [slots_cut, bigSep_fin4]
  unfold aside
  iintro ⟨H0, H1, H2, H3⟩
  ihave H1 := (slot_shares c 1 f).1 $$ H1
  ihave H2 := (slot_shares c 2 f).1 $$ H2
  ihave H3 := (slot_shares c 3 f).1 $$ H3
  icases H1 with ⟨H1, T1⟩
  icases H2 with ⟨H2, T2⟩
  icases H3 with ⟨H3, T3⟩
  isplitl [H0 H1 H2 H3]
  · isplitl [H0]; · iexact H0
    isplitl [H1]; · iexact H1
    isplitl [H2] <;> iassumption
  isplitl [T1]; · iexact T1
  isplitl [T2] <;> iassumption
/-- and with the three shares back it is held in full. -/
theorem gather_join (c : Dev nD) (f : Buf (Elt F) ((c : Thread nD τ).loc cc0_scratch1)) :
    iprop((((c : Thread nD τ).loc cc0_scratch1) ↦{shareDrop fullShare 3} f) ∗ aside c f ∗ bigSep Finset.univ fun d : Fin 3 => slotPts (shareTokN fullShare d.val) c 0 f)
      ⊢ (((c : Thread nD τ).loc cc0_scratch1) ↦{fullShare} f : sProp 𝕄) := by
  rw [slots_cut, slots_cut, bigSep_fin4, bigSep_fin4]
  unfold aside
  iintro ⟨⟨H0, H1, H2, H3⟩, ⟨T1, T2, T3⟩, T0⟩
  isplitl [H0 T0]
  · iapply (slot_shares c 0 f).2; isplitl [H0] <;> iassumption
  isplitl [H1 T1]
  · iapply (slot_shares c 1 f).2; isplitl [H1] <;> iassumption
  isplitl [H2 T2]
  · iapply (slot_shares c 2 f).2; isplitl [H2] <;> iassumption
  iapply (slot_shares c 3 f).2; isplitl [H3] <;> iassumption

end Cert.KernelIdealProof

end
-- ==== Proof.Rules.lean ====
/-
One rule for each kind of step of the gathered maximum's body, whatever its index: start a slab's copy, wait for it and
load it, signal a barrier, wait on one's own, send a row, wait for a row sent or received.
-/
module

public import proofs.«01_k».proof.Proof.Proto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- A device owing `O`, whatever it has waited on so far. -/
def owing (c : Dev nD) (O : CellTallies nD τ sig Unit) : sProp 𝕄 := iprop(∃ W : Waits sig Unit, owes (c : Thread nD τ) O W)

/-- Chunk slot `k` with slab `k` landed in it, over what it held. -/
def landedC (c : Dev nD) (k : Fin 8) (f : Buf (Elt F) ((c : Thread nD τ).loc cc0_scratch0)) : Buf (Elt F) ((c : Thread nD τ).loc cc0_scratch0) :=
  (chunk k).view.write (Elt F) f (slabV m c k) Finset.univ

/-- Slab `k`'s copy under way. -/
def flight (c : Dev nD) (k : Fin 8) (f : Buf (Elt F) ((c : Thread nD τ).loc cc0_scratch0)) : sProp 𝕄 :=
  Flight countersEmb (c : Thread nD τ) (.dma (locS k)) () NL iprop(chunkPts c k (landedC m c k f) ∗ slabPts m c k)

/-- Starting slab `k`'s copy. -/
theorem wp_copy (c : Dev nD) (k : Fin 8) (f : Buf (Elt F) ((c : Thread nD τ).loc cc0_scratch0))
    {hsrc : (slab k).view.WordExact} {hdst : (chunk k).view.WordExact} {hsem : DmaTarget.Typed .hbm (.dma (locS k)) (DmaTarget.here (nD := nD) (τ := τ) (p := Proc.tc) (chunk k))}
    {α : Type} {Q : α → sProp 𝕄} {kk : PUnit → Prog (TpuEff nD τ sig (Elt F) Λ₀ .tc) α} :
    iprop(slabPts m c k ∗ chunkPts c k f ∗ semVal (locCell k c) 0)
      ⊢ iprop((flight m c k f -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slab k) (.here (chunk k)) (.dma (locS k)) hsrc hdst hsem) kk) Q) := by
  unfold flight slabPts chunkPts landedC slabV
  have hN : (chunk k).view.amount (.dma (locS k)) = NL := rfl
  have h := Transfers.wp_dmaLocal (Q := Q) (k := kk) (defs := defs₀ (F := F)) countersEmb 𝒱₀ (c : Thread nD τ) none (src := slab k) (via := .same) (dst := chunk k) (sm := .dma (locS k))
    (hsrc := hsrc) (hdst := hdst) (hsem := hsem) (q := fullShare) (fs := xblk m c) (Sd := (chunk k).view.set) (fd := f) () NL hN NL_pos (Finset.Subset.refl _)
  exact h

/-- The elements that load reads are the slot's. -/
theorem load_set (k : Fin 8) : kM.view.setOn (chunkR k).set = (chunkR k).set :=
  (View.set_slice (View.whole cc0_scratch0) (chunkR k)).symm.trans (View.set_slice_whole cc0_scratch0 (chunkR k))

/-- Waiting for slab `k`'s copy and loading what it brought. -/
theorem wp_landed (c : Dev nD) (k : Fin 8) (f : Buf (Elt F) ((c : Thread nD τ).loc cc0_scratch0))
    {hsrc : (slab k).view.WordExact} {hdst : (chunk k).view.WordExact} {hl : kM.view.LoadsAt (chunkR k).toLoadRect}
    {α : Type} {Q : α → sProp 𝕄} {kk : Vec F S1x512x1024 .f32 → Prog (TpuEff nD τ sig (Elt F) Λ₀ .tc) α} :
    iprop(flight m c k f ∗ owing c (owedR c 0) ∗ levAts L lv)
      ⊢ iprop(((owing c (owedR c 0) ∗ chunkPts c k (landedC m c k f) ∗ slabPts m c k ∗ semVal (locCell k c) 0)
            -∗ wp frame (wpE (defs₀ (F := F)) 𝒱₀ (c : Thread nD τ) none) Set.univ (kk (chunkV m c k)) Q)
          -∗ wp frame (wpE (defs₀ (F := F)) 𝒱₀ (c : Thread nD τ) none) Set.univ
              (.op (.waitDma2 (locS k) (slab k) (chunk k) hsrc hdst) fun _ => .op (.load kM (chunkR k).toLoadRect hl) kk) Q) := by
  unfold flight owing
  iintro ⟨Hfl, ⟨%W, HO⟩, Hlev⟩ Hk
  iapply (Transfers.wp_waitLocalO countersEmb 𝒱₀ (c : Thread nD τ) none () (show (chunk k).view.dmaCredit = NL from rfl)) $$ [Hfl HO Hlev]
  · isplitl [Hfl]; · iexact Hfl
    isplitl [HO]; · iexact HO
    iapply (mayWait_owedR (F := F) c (.dma (locS k)) (by rw [kindOf_loc]; exact Nat.zero_le 1)); iexact Hlev
  iintro ⟨⟨Hc, Hs⟩, Hv, HO⟩
  unfold chunkPts
  iapply (wp_load 𝒱₀ (c : Thread nD τ) none Set.univ (m := kM) (by
    rw [chunk_set, load_set])) $$ Hc
  iintro Hc
  rw [show kM.view.readAt (Elt F) (chunkR k).toLoadRect (landedC m c k f) = chunkV m c k from load_chunk m c k f]
  iapply Hk
  isplitl [HO]; · iexists _; iexact HO
  isplitl [Hc]; · iexact Hc
  isplitl [Hs] <;> iassumption

/-- Signal `j` pays one unit of what is owed before it; -/
theorem owedB_succ (c : Dev nD) (j : Fin 3) : owedB c j.val = owedB c (j.val + 1) + tallyAt (barCell (peer j c)) () 1 := by
  match j with
  | ⟨0, _⟩ => rfl
  | ⟨1, _⟩ => rfl
  | ⟨2, _⟩ => rfl
/-- send `d` pays one row's credit. -/
theorem owedR_succ (c : Dev nD) (d : Fin 3) : owedR c d.val = owedR c (d.val + 1) + tallyAt (rcvCell d (peer d c)) () N := by
  match d with
  | ⟨0, _⟩ => rfl
  | ⟨1, _⟩ => rfl
  | ⟨2, _⟩ => rfl

/-- A unit of the barrier hands over a gather slot of the device that paid it. -/
theorem pay_bar (c : Dev nD) (j : Fin 3) : pay m c .bar j = iprop(∃ f, slotPts fullShare (peer j.rev c) j.rev.succ f) := rfl

/-- What the barrier hands over: of the device `d + 1` ahead, its slot `d + 1`. -/
theorem bar_hands (c : Dev nD) :
    bigSep Finset.univ (pay m c .bar) = iprop((∃ f, slotPts fullShare (peer 2 c) 3 f) ∗ (∃ f, slotPts fullShare (peer 1 c) 2 f) ∗ ∃ f, slotPts fullShare (peer 0 c) 1 f) := by
  rw [bigSep_fin3]; rfl

/-- The signal to the device `j + 1` ahead, with the slot of the gather scratch it is to write. -/
theorem wp_sig (c n : Dev nD) (j : Fin 3) (hn : n = peer j c) (f : Buf (Elt F) ((c : Thread nD τ).loc cc0_scratch1)) (u : ℕ) (hu : u = 1)
    {α : Type} {Q : α → sProp 𝕄} {kk : PUnit → Prog (TpuEff nD τ sig (Elt F) Λ₀ .tc) α} :
    iprop(records m K ∗ owing c (owedB c j.val) ∗ dutyTok ER (barCell (peer j c)) 0 j ∗ slotPts fullShare c j.rev.succ f)
      ⊢ iprop((owing c (owedB c (j.val + 1)) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS u) kk) Q) := by
  subst hn
  subst hu
  unfold owing
  iintro ⟨#HR, ⟨%W, HO⟩, Ht, Hs⟩ Hk
  iapply (Rounds.wp_signal 𝒱₀ ER (sched m) (c : Thread nD τ) none (dst := (peer j c : Thread nD τ)) (sem := barS) (r := 0) (κ := K (peer j c, .bar))
      (d := j) (by rw [show ((peer j c : Thread nD τ), SemLoc.reg barS) = kcell (peer j c, .bar) from rfl, duties_eq]; exact Finset.mem_univ _)
      (amount_eq m (peer j c) .bar j) () (owedB c (j.val + 1)) (owedB_succ c j)) $$ [HO Ht Hs]
  · isplitr; · iapply (inv_at m K (peer j c, .bar)); iexact HR
    isplitl [HO]; · iexact HO
    isplitl [Ht]; · iexact Ht
    isplitl [Hs]
    · rw [show (sched (F := F) m).payload ((peer j c : Thread nD τ), SemLoc.reg barS) 0 j = pay m (peer j c) .bar j from payload_eq m (peer j c) .bar j]
      rw [pay_bar, peer_rev_peer]
      iexists f; iexact Hs
    iapply (reached_at m K (peer j c, .bar)); iexact HR
  iintro HO
  iapply Hk
  iexists W; iexact HO

/-- The wait on one's own barrier: every other device's slot for this one comes with it. -/
theorem wp_bar (c : Dev nD) (u : ℕ) (hu : u = 3)
    {α : Type} {Q : α → sProp 𝕄} {kk : PUnit → Prog (TpuEff nD τ sig (Elt F) Λ₀ .tc) α} :
    iprop(records m K ∗ cred (tallyAt (barCell c) () 3) ∗ owing c (owedR c 0) ∗ levAts L lv ∗ atPos ER (barCell c) 0 ∅ 0)
      ⊢ iprop(((owing c (owedR c 0) ∗ atPos ER (barCell c) 1 ∅ 0 ∗ bigSep Finset.univ (pay m c .bar))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS u) kk) Q) := by
  subst hu
  unfold owing
  iintro ⟨#HR, Hc, ⟨%W, HO⟩, Hlev, Hat⟩ Hk
  iapply (Rounds.wp_wait_rest_token 𝒱₀ ER (sched m) (c : Thread nD τ) none (κ := K (c, .bar))
      (wpE_semWait_eq 𝒱₀ (c : Thread nD τ) none Set.univ) (Set.mem_univ _) () (O := owedR c 0) (W := W) (R := 0) (m := 0) (T := ∅)
      (by rw [show ((c : Thread nD τ), SemLoc.reg barS) = kcell (c, .bar) from rfl, expect_eq]; decide)) $$ [Hc HO Hlev Hat]
  · isplitr; · iapply (inv_at m K (c, .bar)); iexact HR
    isplitl [Hc]; · iexact Hc
    isplitl [HO]; · iexact HO
    isplitl [Hlev]; · iapply (mayWait_owedR (F := F) c (.reg barS) (by decide)); iexact Hlev
    iexact Hat
  iintro ⟨HO, Hat, -, Hpay⟩
  iapply Hk
  isplitl [HO]; · iexists _; iexact HO
  isplitl [Hat]; · iexact Hat
  iapply (Entails.of_eq (rest_eq m c .bar)); iexact Hpay

/-- The send to the device `d + 1` ahead, through read share `d` of slot 0, into the slot it handed over. -/
theorem wp_send (c n : Dev nD) (d : Fin 3) (hn : n = peer d c) {hsc : (slot d.succ : Memref sig (Dev.tc n : Thread nD τ).2.kind .vmem S1x1024 .f32).view.ref.isScScratch = false}
    {hsrc : (slot 0).view.WordExact} {hdst : (slot d.succ).view.WordExact}
    {hsem : DmaTarget.Typed .vmem (.dma (rcvS d)) (.remote (Dev.tc n : Thread nD τ) (slot d.succ) (.dma (sndS d)) hsc)}
    (fn : Buf (Elt F) ((peer d c : Thread nD τ).loc cc0_scratch1))
    {α : Type} {Q : α → sProp 𝕄} {kk : PUnit → Prog (TpuEff nD τ sig (Elt F) Λ₀ .tc) α} :
    iprop(records m K ∗ slotPts (shareTokN fullShare d.val) c 0 (gat m c) ∗ slotPts fullShare (peer d c) d.succ fn
        ∗ owing c (owedR c d.val) ∗ dutyTok ER (sndCell d c) 0 0 ∗ dutyTok ER (rcvCell d (peer d c)) 0 0)
      ⊢ iprop(((cred (tallyAt (sndCell d c) () N) ∗ owing c (owedR c (d.val + 1)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slot 0) (.remote (Dev.tc n : Thread nD τ) (slot d.succ) (.dma (sndS d)) hsc) (.dma (rcvS d)) hsrc hdst hsem) kk) Q) := by
  subst hn
  unfold owing
  iintro ⟨#HR, Hs, Hd, ⟨%W, HO⟩, Ht, Ht'⟩ Hk
  have h := Rounds.wp_send_pointsTo (Γ := .empty) (Es := Set.univ) (Q := Q) (k := kk) (hsrc := hsrc) (hdst := hdst) (hsem := hsem) 𝒱₀ ER (sched m) (c : Thread nD τ) none (κ₁ := K (c, .snd d)) (κ₂ := K (peer d c, .rcv d))
    (r₁ := 0) (r₂ := 0) (d₁ := 0) (d₂ := 0) (fd := fn) (fs := gat m c) (q := shareTokN fullShare d.val) (defs := defs₀ (F := F))
    (by rw [show ((c : Thread nD τ), SemLoc.dma (sndS d)) = kcell (c, .snd d) from rfl, duties_eq]; exact Finset.mem_singleton_self _)
    (by rw [show ((peer d c : Thread nD τ), SemLoc.dma (rcvS d)) = kcell (peer d c, .rcv d) from rfl, duties_eq]; exact Finset.mem_singleton_self _)
    () () N rfl (amount_eq m c (.snd d) 0) (amount_eq m (peer d c) (.rcv d) 0) (owedR c (d.val + 1)) (owedR_succ c d) (W := W)
    (by rw [show ((c : Thread nD τ), SemLoc.dma (sndS d)) = kcell (c, .snd d) from rfl, payload_eq]; exact BI.Entails.refl _)
    (by
      rw [show ((peer d c : Thread nD τ), SemLoc.dma (rcvS d)) = kcell (peer d c, .rcv d) from rfl, payload_eq]
      exact Entails.of_eq (pointsTo_congr (landed_eq m c d fn)))
  unfold slotPts
  iapply h $$ [Hs Hd HO Ht Ht']
  · isplitr; · iapply (inv_at m K (c, .snd d)); iexact HR
    isplitr; · iapply (inv_at m K (peer d c, .rcv d)); iexact HR
    isplitl [Hs]; · iexact Hs
    isplitl [Hd]; · iexact Hd
    isplitl [HO]; · iexact HO
    isplitl [Ht]; · iexact Ht
    isplitr; · iapply (reached_at m K (c, .snd d)); iexact HR
    isplitl [Ht']; · iexact Ht'
    iapply (reached_at m K (peer d c, .rcv d)); iexact HR
  iintro ⟨Hc, HO⟩
  iapply Hk
  isplitl [Hc]; · iexact Hc
  iexists W; iexact HO

/-- The wait on a cell that one row's credit closes, owing nothing: what its transfer hands over. -/
theorem wp_take (c : Dev nD) (k : CK) (s : DmaSem sig) (hs : csem k = .dma s) (hk : dutiesOf k = {0}) (hk' : unitOf k = N)
    {src dst : Memref sig .tc .vmem S1x1024 .f32} {hsrc : src.view.WordExact} {hdst : dst.view.WordExact}
    {α : Type} {Q : α → sProp 𝕄} {kk : PUnit → Prog (TpuEff nD τ sig (Elt F) Λ₀ .tc) α} :
    iprop(records m K ∗ cred (tallyAt (kcell (c, k)) () N) ∗ owing c 0 ∗ atPos ER (kcell (c, k)) 0 ∅ 0)
      ⊢ iprop(((owing c 0 ∗ atPos ER (kcell (c, k)) 1 ∅ 0 ∗ pay m c k 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  have hcell : ((c : Thread nD τ), SemLoc.dma s) = kcell (c, k) := by show _ = ((c : Thread nD τ), csem k); rw [hs]
  have hrest : bigSep ((sched (F := F) m).duties ((c : Thread nD τ), SemLoc.dma s) 0 \ ∅) (fun d => (sched (F := F) m).payload ((c : Thread nD τ), SemLoc.dma s) 0 d)
      = pay m c k 0 := by rw [hcell, rest_eq, hk, bigSep_singleton]
  unfold owing
  rw [← hcell]
  iintro ⟨#HR, Hc, ⟨%W, HO⟩, Hat⟩ Hk
  iapply (Rounds.wp_wait_rest_token 𝒱₀ ER (sched m) (c : Thread nD τ) none (κ := K (c, k))
      (wpE_waitDma2_eq 𝒱₀ (c : Thread nD τ) none Set.univ) (Set.mem_univ _) () (O := 0) (W := W) (R := 0) (m := 0) (T := ∅)
      (by rw [hcell, expect_eq, hk, hk', Finset.card_singleton, one_mul, Nat.zero_add])) $$ [Hc HO Hat]
  · isplitr; · rw [hcell]; iapply (inv_at m K (c, k)); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq hrest); iexact Hpay

/-- Once a cell's one round is over, its counter at zero is the device's again: every cell of a device at once. -/
theorem close_all (c : Dev nD) :
    iprop(records m K ∗ bigSep Finset.univ fun k : CK => (atPos ER (kcell (c, k)) 1 ∅ 0 : sProp 𝕄))
      ⊢ |={Set.univ}=> bigSep Finset.univ fun k : CK => semVal (kcell (c, k)) 0 := by
  have hk (k : CK) : iprop(records m K ∗ atPos ER (kcell (c, k)) 1 ∅ 0) ⊢ (|={Set.univ}=> semVal (kcell (c, k)) 0 : sProp 𝕄) := by
    iintro ⟨#HR, Hat⟩
    iapply (Rounds.cell_close ER (sched m) (Set.mem_univ (K (c, k))) (fun h => h) (R := 0 + 1) (duties_later m (kcell (c, k))))
    isplitr; · iapply (inv_at m K (c, k)); iexact HR
    iexact Hat
  refine BIBase.Entails.trans ?_ (bigSep_fupd (Finset.univ : Finset CK) fun k => (semVal (kcell (c, k)) 0 : sProp 𝕄))
  refine (sep_mono_left (BI.bigSep_of_persistent (Finset.univ : Finset CK) (records m K))).trans ?_
  rw [← bigSep_sep']
  exact bigSep_mono fun k _ => hk k

end Cert.KernelIdealProof

end
-- ==== Proof.Body.lean ====
/-
The gathered maximum's body on one device, step by step: eight copies started, three signals, the barrier; each slab
waited for and reduced; the device's row stored and sent to the three others; their rows waited for; the result stored;
the sends waited for.
-/
module

public import proofs.«01_k».proof.Proof.Rules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- The start indices of a whole access to two axes are all zero; -/
theorem start2 : (![0, 0] : Fin 2 → Nat) = fun _ => 0 := by decide
/-- to three likewise. -/
theorem start3 : (![0, 0, 0] : Fin 3 → Nat) = fun _ => 0 := by decide

/-- A load of the whole gather scratch reads its contents; -/
theorem read_gather (f : (cc0_scratch1 : Ref sig .tc).ty.Contents (Elt F)) :
    gM.view.readAt (Elt F) (Rect.unit (s := S4x1x1024) ![0, 0, 0] S4x1x1024.size inb_S4x1x1024_S4x1x1024_0_0_0).toLoadRect f = f :=
  Memref.readAt_unit_zero (Elt F) cc0_scratch1 start3 _ f
/-- a store of the whole result leaves what was stored. -/
theorem write_out (f w : (cc0_stg0_0 : Ref sig .tc).ty.Contents (Elt F)) :
    (oM.access (Rect.unit (s := S1x1024) ![0, 0] S1x1024.size inb_S1x1024_S1x1024_0_0) : View sig .tc _ _ _).write (Elt F) f w Finset.univ = w :=
  Memref.write_access_unit_zero_univ (Elt F) cc0_stg0_0 start2 _ f w

/-- The elements of slot 0, as the body's load and store of it name them. -/
theorem slot0_set : gM.view.setOn (slotR 0).set = (slot 0).view.set := by
  rw [slot_set]
  exact (View.set_slice (View.whole cc0_scratch1) (slotR 0)).symm.trans (View.set_slice_whole cc0_scratch1 (slotR 0))

/-- The store's name for them. -/
theorem slot0_store_set : (gM.access (slotR 0)).setOn Finset.univ = (slot 0).view.set := by
  rw [slot_set]; exact View.set_slice_whole cc0_scratch1 (slotR 0)

/-- Slot 0 with the device's row stored in it. -/
theorem slot0_stored (c : Dev nD) (f : Buf (Elt F) ((c : Thread nD τ).loc cc0_scratch1)) :
    ((gM.access (slotR 0)).loc (c : Thread nD τ) ↦[(slot 0).view.set]{fullShare} (gM.access (slotR 0)).write (Elt F) f
        (k0_pay5 (k0_pay3 (k0_pay2 (k0_pay1 (chunkV m c 0) (chunkV m c 1)) (chunkV m c 2) (chunkV m c 3) (chunkV m c 4)) (chunkV m c 5) (chunkV m c 6))
          (k0_pay4 (chunkV m c 7))) Finset.univ)
      ⊢ (slotPts fullShare c 0 (gat m c) : sProp 𝕄) :=
  Entails.of_eq (pointsTo_congr (stored_eq m c f))
/-- Slot 0 as the body's load of the scratch addresses it. -/
theorem slot0_open (c : Dev nD) (f : Buf (Elt F) ((c : Thread nD τ).loc cc0_scratch1)) :
    slotPts fullShare c 0 f ⊢ (gM.view.loc (c : Thread nD τ) ↦[(slot 0).view.set]{fullShare} f : sProp 𝕄) := BIBase.Entails.rfl

/-- A landed slot of the gather scratch; -/
theorem landed_slot (c : Dev nD) (d : Fin 3) : pay m c (.rcv d) 0 ⊢ slotPts fullShare c d.succ (gat m c) := BIBase.Entails.rfl
/-- a read share of slot 0 come back. -/
theorem share_back (c : Dev nD) (d : Fin 3) : pay m c (.snd d) 0 ⊢ slotPts (shareTokN fullShare d.val) c 0 (gat m c) := BIBase.Entails.rfl

/-- A staging buffer of device `c` held in full, at contents `X`. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

/-- Owning a whole staging buffer at contents `X`, unfolded. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns staged; simp only [Memref.view_whole, View.read_whole, View.set_whole]

def bodyPre (c : Dev nD) : sProp 𝕄 :=
  iprop(records m K ∗ linear c ∗ locs0 c ∗ credit c ∗ levAts L lv ∗ xPts m c ∗ scratch c
    ∗ owing c (O₀ c) ∗ (∃ g : Buf (Elt F) ((c : Thread nD τ).loc cc0_stg0_0), ((c : Thread nD τ).loc cc0_stg0_0) ↦{fullShare} g))

def bodyPost (c : Dev nD) : sProp 𝕄 :=
  iprop(Φ₁ m c ∗ owing c 0 ∗ (((c : Thread nD τ).loc cc0_stg0_0) ↦{fullShare} outAt m c))

set_option maxRecDepth 4000 in
set_option maxHeartbeats 1600000 in
/-- The body, from `bodyPre` to `bodyPost`, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre linear payToks locs0 credit scratch
  simp only [bigSep_fin3, bigSep_fin8, bigSep_CK, xPts_slabs, chunks_cut, slots_cut, bigSep_fin4]
  iintro ⟨⟨#HR, ⟨⟨HaB, HaS0, HaS1, HaS2, HaR0, HaR1, HaR2⟩, ⟨HtB0, HtB1, HtB2⟩, ⟨HtR0, HtR1, HtR2⟩, HtS0, HtS1, HtS2⟩,
    ⟨Hv0, Hv1, Hv2, Hv3, Hv4, Hv5, Hv6, Hv7⟩, ⟨HcB, HcR0, HcR1, HcR2⟩, #Hlev, ⟨Hx0, Hx1, Hx2, Hx3, Hx4, Hx5, Hx6, Hx7⟩,
    ⟨⟨%f, Hk0, Hk1, Hk2, Hk3, Hk4, Hk5, Hk6, Hk7⟩, ⟨%g, Hg0, Hg1, Hg2, Hg3⟩⟩, HO, ⟨%o, Hout⟩⟩, HK⟩
  -- the eight copies
  iapply (wp_copy m c 0 f) $$ [Hx0 Hk0 Hv0]
  · isplitl [Hx0]; · iexact Hx0
    isplitl [Hk0] <;> iassumption
  iintro Hf0
  iapply (wp_copy m c 1 f) $$ [Hx1 Hk1 Hv1]
  · isplitl [Hx1]; · iexact Hx1
    isplitl [Hk1] <;> iassumption
  iintro Hf1
  iapply (wp_copy m c 2 f) $$ [Hx2 Hk2 Hv2]
  · isplitl [Hx2]; · iexact Hx2
    isplitl [Hk2] <;> iassumption
  iintro Hf2
  iapply (wp_copy m c 3 f) $$ [Hx3 Hk3 Hv3]
  · isplitl [Hx3]; · iexact Hx3
    isplitl [Hk3] <;> iassumption
  iintro Hf3
  iapply (wp_copy m c 4 f) $$ [Hx4 Hk4 Hv4]
  · isplitl [Hx4]; · iexact Hx4
    isplitl [Hk4] <;> iassumption
  iintro Hf4
  iapply (wp_copy m c 5 f) $$ [Hx5 Hk5 Hv5]
  · isplitl [Hx5]; · iexact Hx5
    isplitl [Hk5] <;> iassumption
  iintro Hf5
  iapply (wp_copy m c 6 f) $$ [Hx6 Hk6 Hv6]
  · isplitl [Hx6]; · iexact Hx6
    isplitl [Hk6] <;> iassumption
  iintro Hf6
  iapply (wp_copy m c 7 f) $$ [Hx7 Hk7 Hv7]
  · isplitl [Hx7]; · iexact Hx7
    isplitl [Hk7] <;> iassumption
  iintro Hf7
  -- the three signals, each with the slot its device is to write
  simp only [dev1_eq c, dev2_eq c, dev3_eq c, dev4_eq c, dev5_eq c, dev6_eq c]
  iapply (wp_sig m K c _ 0 rfl g _ (by decide)) $$ [HO HtB0 Hg3]
  · isplitr; · iexact HR
    isplitl [HO]; · iexact HO
    isplitl [HtB0]; · iexact HtB0
    iexact Hg3
  iintro HO
  iapply (wp_sig m K c _ 1 rfl g _ (by decide)) $$ [HO HtB1 Hg2]
  · isplitr; · iexact HR
    isplitl [HO]; · iexact HO
    isplitl [HtB1]; · iexact HtB1
    iexact Hg2
  iintro HO
  iapply (wp_sig m K c _ 2 rfl g _ (by decide)) $$ [HO HtB2 Hg1]
  · isplitr; · iexact HR
    isplitl [HO]; · iexact HO
    isplitl [HtB2]; · iexact HtB2
    iexact Hg1
  iintro HO
  -- the barrier: a slot of each other device's
  iapply (wp_bar m K c _ (by decide)) $$ [HcB HO HaB]
  · isplitr; · iexact HR
    isplitl [HcB]; · iexact HcB
    isplitl [HO]; · iexact HO
    isplitr; · iexact Hlev
    iexact HaB
  iintro ⟨HO, HaB, Hpay⟩
  ihave Hp := (Entails.of_eq (bar_hands m c)) $$ Hpay
  icases Hp with ⟨⟨%f2, Hd2⟩, ⟨%f1, Hd1⟩, ⟨%f0, Hd0⟩⟩
  -- the slabs, as they land
  iapply (wp_landed m c 0 f) $$ [Hf0 HO]
  · isplitl [Hf0]; · iexact Hf0
    isplitl [HO]; · iexact HO
    iexact Hlev
  iintro ⟨HO, Hk0, Hx0, Hv0⟩
  iapply (wp_landed m c 1 f) $$ [Hf1 HO]
  · isplitl [Hf1]; · iexact Hf1
    isplitl [HO]; · iexact HO
    iexact Hlev
  iintro ⟨HO, Hk1, Hx1, Hv1⟩
  iapply (wp_landed m c 2 f) $$ [Hf2 HO]
  · isplitl [Hf2]; · iexact Hf2
    isplitl [HO]; · iexact HO
    iexact Hlev
  iintro ⟨HO, Hk2, Hx2, Hv2⟩
  iapply (wp_landed m c 3 f) $$ [Hf3 HO]
  · isplitl [Hf3]; · iexact Hf3
    isplitl [HO]; · iexact HO
    iexact Hlev
  iintro ⟨HO, Hk3, Hx3, Hv3⟩
  iapply (wp_landed m c 4 f) $$ [Hf4 HO]
  · isplitl [Hf4]; · iexact Hf4
    isplitl [HO]; · iexact HO
    iexact Hlev
  iintro ⟨HO, Hk4, Hx4, Hv4⟩
  iapply (wp_landed m c 5 f) $$ [Hf5 HO]
  · isplitl [Hf5]; · iexact Hf5
    isplitl [HO]; · iexact HO
    iexact Hlev
  iintro ⟨HO, Hk5, Hx5, Hv5⟩
  iapply (wp_landed m c 6 f) $$ [Hf6 HO]
  · isplitl [Hf6]; · iexact Hf6
    isplitl [HO]; · iexact HO
    iexact Hlev
  iintro ⟨HO, Hk6, Hx6, Hv6⟩
  iapply (wp_landed m c 7 f) $$ [Hf7 HO]
  · isplitl [Hf7]; · iexact Hf7
    isplitl [HO]; · iexact HO
    iexact Hlev
  iintro ⟨HO, Hk7, Hx7, Hv7⟩
  -- the device's row, stored in slot 0 and dealt into read shares
  ihave Hg0 := (slot0_open c g) $$ Hg0
  iapply (wp_load 𝒱₀ (c : Thread nD τ) none Set.univ (m := gM) (subset_of_eq slot0_set)) $$ Hg0; iintro Hg0
  iapply (wp_store 𝒱₀ (c : Thread nD τ) none Set.univ (m := gM) (r := slotR 0) (Mk := Finset.univ) (subset_of_eq slot0_store_set)) $$ Hg0; iintro Hg0
  ihave Hg0 := (slot0_stored m c g) $$ Hg0
  ihave Hg0 := (slot_shares c 0 (gat m c)).1 $$ Hg0
  rw [bigSep_fin3]
  icases Hg0 with ⟨Hg0, Hq0, Hq1, Hq2⟩
  -- the three sends
  iapply (wp_send m K c _ 0 (dev4_eq c) f0) $$ [Hq0 Hd0 HO HtS0 HtR0]
  · isplitr; · iexact HR
    isplitl [Hq0]; · iexact Hq0
    isplitl [Hd0]; · iexact Hd0
    isplitl [HO]; · iexact HO
    isplitl [HtS0] <;> iassumption
  iintro ⟨HcS0, HO⟩
  iapply (wp_send m K c _ 1 (dev5_eq c) f1) $$ [Hq1 Hd1 HO HtS1 HtR1]
  · isplitr; · iexact HR
    isplitl [Hq1]; · iexact Hq1
    isplitl [Hd1]; · iexact Hd1
    isplitl [HO]; · iexact HO
    isplitl [HtS1] <;> iassumption
  iintro ⟨HcS1, HO⟩
  iapply (wp_send m K c _ 2 (dev6_eq c) f2) $$ [Hq2 Hd2 HO HtS2 HtR2]
  · isplitr; · iexact HR
    isplitl [Hq2]; · iexact Hq2
    isplitl [Hd2]; · iexact Hd2
    isplitl [HO]; · iexact HO
    isplitl [HtS2] <;> iassumption
  iintro ⟨HcS2, HO⟩
  rw [show owedR c ((2 : Fin 3).val + 1) = 0 from rfl]
  -- the rows of the three others
  iapply (wp_take m K c (.rcv 0) (rcvS 0) rfl rfl rfl) $$ [HcR0 HO HaR0]
  · isplitr; · iexact HR
    isplitl [HcR0]; · iexact HcR0
    isplitl [HO] <;> iassumption
  iintro ⟨HO, HaR0, Hg1⟩
  ihave Hg1 := (landed_slot m c 0) $$ Hg1
  iapply (wp_take m K c (.rcv 1) (rcvS 1) rfl rfl rfl) $$ [HcR1 HO HaR1]
  · isplitr; · iexact HR
    isplitl [HcR1]; · iexact HcR1
    isplitl [HO] <;> iassumption
  iintro ⟨HO, HaR1, Hg2⟩
  ihave Hg2 := (landed_slot m c 1) $$ Hg2
  iapply (wp_take m K c (.rcv 2) (rcvS 2) rfl rfl rfl) $$ [HcR2 HO HaR2]
  · isplitr; · iexact HR
    isplitl [HcR2]; · iexact HcR2
    isplitl [HO] <;> iassumption
  iintro ⟨HO, HaR2, Hg3⟩
  ihave Hg3 := (landed_slot m c 2) $$ Hg3
  -- the gather scratch read whole, the result stored
  ihave Hg := (gather_lend c (gat m c)) $$ [Hg0 Hg1 Hg2 Hg3]
  · isplitl [Hg0]; · iexact Hg0
    isplitl [Hg1]; · iexact Hg1
    isplitl [Hg2]; · iexact Hg2
    iexact Hg3
  icases Hg with ⟨Hg, Hasd⟩
  iapply (wp_load 𝒱₀ (c : Thread nD τ) none Set.univ (m := gM) (Finset.subset_univ _)) $$ Hg; iintro Hg
  rw [read_gather]
  iapply (wp_load 𝒱₀ (c : Thread nD τ) none Set.univ (m := oM) (Finset.subset_univ _)) $$ Hout; iintro Hout
  iapply (wp_store 𝒱₀ (c : Thread nD τ) none Set.univ (m := oM) (r := Rect.unit ![0, 0] ![1, 1024] inb_S1x1024_S1x1024_0_0) (f := o) (S := Finset.univ) (Mk := Finset.univ) (Finset.subset_univ _)) $$ Hout; iintro Hout
  rw [write_out]
  -- the sends done, slot 0's shares back
  iapply (wp_take m K c (.snd 0) (sndS 0) rfl rfl rfl) $$ [HcS0 HO HaS0]
  · isplitr; · iexact HR
    isplitl [HcS0]; · iexact HcS0
    isplitl [HO] <;> iassumption
  iintro ⟨HO, HaS0, Hq0⟩
  ihave Hq0 := (share_back m c 0) $$ Hq0
  iapply (wp_take m K c (.snd 1) (sndS 1) rfl rfl rfl) $$ [HcS1 HO HaS1]
  · isplitr; · iexact HR
    isplitl [HcS1]; · iexact HcS1
    isplitl [HO] <;> iassumption
  iintro ⟨HO, HaS1, Hq1⟩
  ihave Hq1 := (share_back m c 1) $$ Hq1
  iapply (wp_take m K c (.snd 2) (sndS 2) rfl rfl rfl) $$ [HcS2 HO HaS2]
  · isplitr; · iexact HR
    isplitl [HcS2]; · iexact HcS2
    isplitl [HO] <;> iassumption
  iintro ⟨HO, HaS2, Hq2⟩
  ihave Hq2 := (share_back m c 2) $$ Hq2
  ihave Hg := (gather_join c (gat m c)) $$ [Hg Hasd Hq0 Hq1 Hq2]
  · isplitl [Hg]; · iexact Hg
    isplitl [Hasd]; · iexact Hasd
    rw [bigSep_fin3]
    isplitl [Hq0]; · iexact Hq0
    isplitl [Hq1]; · iexact Hq1
    iexact Hq2
  -- every cell closes
  imod (close_all m K c) $$ [HaB HaS0 HaS1 HaS2 HaR0 HaR1 HaR2] with Hz
  · isplitr; · iexact HR
    rw [bigSep_CK]
    isplitl [HaB]; · iexact HaB
    isplitl [HaS0]; · iexact HaS0
    isplitl [HaS1]; · iexact HaS1
    isplitl [HaS2]; · iexact HaS2
    isplitl [HaR0]; · iexact HaR0
    isplitl [HaR1] <;> iassumption
  rw [wp_ret]; imodintro
  iapply HK
  unfold bodyPost Φ₁ scratch locs0
  rw [xPts_slabs, bigSep_fin8, bigSep_fin8]
  isplitr [HO Hout]
  · isplitl [Hk0 Hk1 Hk2 Hk3 Hk4 Hk5 Hk6 Hk7 Hg]
    · isplitr [Hg]
      · iapply (chunks_join c fun k => landedC m c k f)
        rw [bigSep_fin8]
        isplitl [Hk0]; · iexact Hk0
        isplitl [Hk1]; · iexact Hk1
        isplitl [Hk2]; · iexact Hk2
        isplitl [Hk3]; · iexact Hk3
        isplitl [Hk4]; · iexact Hk4
        isplitl [Hk5]; · iexact Hk5
        isplitl [Hk6] <;> iassumption
      · iexists _; iexact Hg
    isplitl [Hv0 Hv1 Hv2 Hv3 Hv4 Hv5 Hv6 Hv7]
    · isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6] <;> iassumption
    isplitl [Hz]; · iexact Hz
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6] <;> iassumption
  isplitl [HO]; · iexact HO
  iexact Hout

end Cert.KernelIdealProof

end
-- ==== Proof.Launch.lean ====
/-
The gathered maximum launched on the mesh: the cells' ghost state made and their invariants allocated for all devices at
once, each device dealt the tokens of the duties it pays, and the whole program's run read off the body's proof.
-/
module

public import proofs.«01_k».proof.Proof.Body
public import proofs.«01_k».proof.Proof.Gen.KernelIdeal.Points
public import Idealize.ShloMosaic.Lib.Pipeline.CollectiveSegs
public import Idealize.ShloMosaic.Lib.Pipeline.Value
public import Idealize.ShloMosaic.Adequacy
public import Idealize.ShloMosaic.Init

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline asks for it -/

def bodyPre' (c : Dev nD) : sProp 𝕄 :=
  iprop(Φ₀ m c ∗ (dats m 0 c).owesAt () t₀.castSucc ∗ (∃ d, staged c cc0_stg0_0 ((dats m 0 c).before (0 : Fin 1) t₀ d)))
def bodyPost' (c : Dev nD) : sProp 𝕄 :=
  iprop(Φ₁ m c ∗ (dats m 0 c).owesAt () t₀.succ ∗ staged c cc0_stg0_0 (outAt m c))

/-- What the pipeline hands the body, out of which the body's own precondition. -/
theorem pre_open (c : Dev nD) : bodyPre' m c ⊢ iprop(∃ K, bodyPre m K c) := by
  unfold bodyPre' Φ₀ start bodyPre staged owing Dat.owesAt Pipeline.owesWithin
  rw [show (dats m 0 c).owed t₀.castSucc = O₀ c from rfl]
  iintro ⟨⟨⟨⟨%K, HR, Hlin⟩, Hloc, Hcr, Hlev, Hx⟩, Hscr⟩, ⟨%W, -, HO⟩, ⟨%d, %f, -, Hout⟩⟩
  iexists K
  isplitl [HR]; · iexact HR
  isplitl [Hlin]; · iexact Hlin
  isplitl [Hloc]; · iexact Hloc
  isplitl [Hcr]; · iexact Hcr
  isplitl [Hlev]; · iexact Hlev
  isplitl [Hx]; · iexact Hx
  isplitl [Hscr]; · iexact Hscr
  isplitl [HO]
  · iexists W; iexact HO
  iexists f; iexact Hout

/-- What the body leaves is what the pipeline takes back. -/
theorem post_close (c : Dev nD) : bodyPost m c ⊢ bodyPost' m c := by
  unfold bodyPost bodyPost' staged owing Dat.owesAt Pipeline.owesWithin
  rw [show (dats m 0 c).owed t₀.succ = 0 from rfl]
  iintro ⟨HΦ, ⟨%W, HO⟩, Hout⟩
  isplitl [HΦ]; · iexact HΦ
  isplitl [HO]
  · iexists W
    isplitr; · ipureintro; exact fun _ _ => Or.inl trivial
    iexact HO
  iexists _; isplitr; · (ipureintro; rfl)
  iexact Hout

set_option maxRecDepth 16000 in
/-- The library's body obligation on core `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4) (fun _ => bodyPost' m c)
  iintro H
  ihave H := (pre_open m c) $$ H
  icases H with ⟨%K, H⟩
  iapply (sound_body m K c fun _ => bodyPost' m c)
  isplitl [H]; · iexact H
  iintro H
  iapply (post_close m c); iexact H

/-! ## The launch's ghost state -/

/-- The kernel's own semaphores: the local copies', the sends', the receipts'. -/
abbrev OK : Type := Fin 8 ⊕ Fin 3 ⊕ Fin 3
abbrev osem : OK → SemLoc sig
  | .inl k => .dma (locS k)
  | .inr (.inl d) => .dma (sndS d)
  | .inr (.inr d) => .dma (rcvS d)

/-- The kernel's own semaphores, listed without repetition, are those the call allocates. -/
theorem ownSemFacts : Pipeline.OwnSemFacts cfg0.spec osem := by decide

/-- Every window is held in full. -/
theorem share_eq (c : Dev nD) (w : Fin cfg0.W) : (dats m 0 c).share w = fullShare := by unfold Dat.share; split <;> rfl

def allCells : Finset (GSem nD τ sig) := Finset.univ.map ⟨kcell, kcell_injective⟩

/-- A device's cells' duties: three on its barrier, one on each receipt and each send. -/
def dutyAt : Fin 3 × Fin 3 → CK × Fin 3
  | (0, i) => (.bar, i)
  | (1, i) => (.rcv i, 0)
  | (2, i) => (.snd i, 0)
/-- Different duties are listed apart, -/
theorem dutyAt_injective : Function.Injective dutyAt := by decide

def tokAt (x : Dev nD × (Fin 3 × Fin 3)) : GSem nD τ sig × ℕ × Fin 3 := (kcell (x.1, (dutyAt x.2).1), 0, (dutyAt x.2).2)
/-- and so are their tokens over all devices. -/
theorem tokAt_injective : Function.Injective tokAt := by
  rintro ⟨c, t⟩ ⟨c', t'⟩ h
  have h1 : (c, (dutyAt t).1) = (c', (dutyAt t').1) := kcell_injective (congrArg Prod.fst h)
  have h2 : (dutyAt t).2 = (dutyAt t').2 := congrArg (fun x => x.2.2) h
  rw [(Prod.mk.inj h1).1, dutyAt_injective (Prod.ext (Prod.mk.inj h1).2 h2)]
def allToks : Finset (GSem nD τ sig × ℕ × Fin 3) := Finset.univ.map ⟨tokAt, tokAt_injective⟩

def u₀ : UU := (initOf (Pipeline.cells cfgs cellOf_inj) (Pipeline.launchToks cfgs cellOf_inj), (initOf allCells allToks, 1))

/-- The duty tokens of device `c`'s own cells. -/
def toks (c : Dev nD) : sProp 𝕄 :=
  iprop((bigSep Finset.univ fun j : Fin 3 => dutyTok ER (barCell c) 0 j)
    ∗ (bigSep Finset.univ fun d : Fin 3 => dutyTok ER (rcvCell d c) 0 0)
    ∗ bigSep Finset.univ fun d : Fin 3 => dutyTok ER (sndCell d c) 0 0)

/-- What the launch deals device `c`; -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)
/-- what the step over all devices makes of it. -/
def G' (c : Dev nD) : sProp 𝕄 := iprop((∃ K, records m K ∗ linear c) ∗ locs0 c)

/-- The protocol's element is owned where the launch puts it. -/
theorem own_nested : (BI.own (((Emb.inl : Emb UB (UB × Counters)).trans embR) (initOf allCells allToks)) : sProp 𝕄) ⊢ BI.own (ER (initOf allCells allToks)) := by
  unfold ER; exact BIBase.Entails.rfl

/-- Out of the protocol's element at launch, each device's cells, positions and tokens. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_univ_prod, bigSep_fin3]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores and the barrier semaphore are the protocol's cells and the local ones. -/
theorem sems_eq (c : Dev nD) :
    iprop(Pipeline.ownSems0 (Ix := Unit) (Name := ℕ) (U := UU) (Lvl := ℕ) (Val := Elt F) (τ := τ) osem c ∗ unscopedSems0 c)
      ⊣⊢ (iprop((bigSep Finset.univ fun k : CK => semVal (kcell (c, k)) 0) ∗ locs0 c) : sProp 𝕄) := by
  have hu : (unscopedSems0 c : sProp 𝕄) = semVal (barCell c) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = iprop(locs0 c ∗ (semVal (sndCell 0 c) 0 ∗ semVal (sndCell 1 c) 0 ∗ semVal (sndCell 2 c) 0)
        ∗ (semVal (rcvCell 0 c) 0 ∗ semVal (rcvCell 1 c) 0 ∗ semVal (rcvCell 2 c) 0)) := by
    unfold Pipeline.ownSems0 locs0
    rw [BI.bigSep_univ_sum, BI.bigSep_univ_sum, bigSep_fin3, bigSep_fin3]; rfl
  rw [hu, ho, bigSep_CK]
  constructor
  · iintro ⟨⟨HL, ⟨HS0, HS1, HS2⟩, HR0, HR1, HR2⟩, HB⟩
    isplitr [HL]
    · isplitl [HB]; · iexact HB
      isplitl [HS0]; · iexact HS0
      isplitl [HS1]; · iexact HS1
      isplitl [HS2]; · iexact HS2
      isplitl [HR0]; · iexact HR0
      isplitl [HR1]; · iexact HR1
      iexact HR2
    iexact HL
  · iintro ⟨⟨HB, HS0, HS1, HS2, HR0, HR1, HR2⟩, HL⟩
    isplitr [HB]
    · isplitl [HL]; · iexact HL
      isplitl [HS0 HS1 HS2]
      · isplitl [HS0]; · iexact HS0
        isplitl [HS1]; · iexact HS1
        iexact HS2
      isplitl [HR0]; · iexact HR0
      isplitl [HR1]; · iexact HR1
      iexact HR2
    iexact HB

/-- On one device: its counters at zero and its cells' states become the cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ locs0 c) := by
  unfold G
  iintro ⟨Hos, Hus, Hst, Hat, Htok⟩
  ihave Hv := (sems_eq (F := F) c).1 $$ [Hos Hus]
  · isplitl [Hos] <;> iassumption
  icases Hv with ⟨Hv, Hloc⟩
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens dealt around: barrier duty `j` and receipt `j` of the device `j + 1` ahead are device `c`'s to pay. -/
theorem toks_around : (bigSep Finset.univ fun c : Dev nD => (toks c : sProp 𝕄)) ⊢ bigSep Finset.univ fun c : Dev nD => payToks c := by
  have hb (j : Fin 3) := bigSep_univ_equiv (turn j) (fun c : Dev nD => (dutyTok ER (barCell c) 0 j : sProp 𝕄))
  have hr (d : Fin 3) := bigSep_univ_equiv (turn d) (fun c : Dev nD => (dutyTok ER (rcvCell d c) 0 0 : sProp 𝕄))
  unfold toks payToks
  simp only [bigSep_fin3, bigSep_sep']
  rw [hb 0, hb 1, hb 2, hr 0, hr 1, hr 2]
  exact BIBase.Entails.rfl

/-- A fact that can be copied is handed to every part of a conjunction. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (Q := bigSep S fun i => iprop(R ∗ Φ i))
    (by rw [bigSep_sep']; exact sep_mono_left (BI.bigSep_of_persistent S R)) (bigSep_mono h)

/-- The records and what is a device's alone are what the device is to start with. -/
theorem deal (K : Dev nD × CK → ℕ) (c : Dev nD) :
    iprop(records m K ∗ ((bigSep Finset.univ fun k : CK => atPos ER (kcell (c, k)) 0 ∅ 0) ∗ payToks c) ∗ locs0 c) ⊢ G' m c := by
  unfold G' linear
  iintro ⟨HR, H, Hloc⟩
  isplitr [Hloc]
  · iexists K
    isplitl [HR] <;> iassumption
  iexact Hloc

/-- Over all devices: one choice of names for all the invariants, and the tokens dealt to who pays. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ locs0 c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hloc⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (to_each (R := records m K) fun c _ => deal m K c)
  isplitr
  · unfold records; isplitl; · iexact HI
    iexact HR
  rw [bigSep_sep', bigSep_sep']
  isplitr [Hloc]
  · isplitl [Hat] <;> iassumption
  iexact Hloc

/-- The step over all devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Being `k + 1` ahead, read from the other side. -/
theorem peer_eq_iff {k : Fin 3} {c d : Dev nD} : c = peer k d ↔ d = peer k.rev c :=
  ⟨fun h => by rw [h, peer_rev_peer], fun h => by rw [h, peer_peer_rev]⟩

/-- What device `d` owes `c`'s barrier: a unit for each way `c` lies ahead of it; -/
theorem owed_bar (d c : Dev nD) :
    O₀ d (barCell c) () = (if d = peer 0 c then 1 else 0) + (if d = peer 1 c then 1 else 0) + (if d = peer 2 c then 1 else 0) := by
  have e (k : Fin 3) : (c = peer k d) = (d = peer k.rev c) := propext peer_eq_iff
  unfold O₀ owedB owedR
  simp only [Pi.add_apply, Finsupp.add_apply, tallyAt_apply, kcell_eq_iff, Prod.mk.injEq, reduceCtorEq, and_false, and_true, false_and, if_false, e, csem_injective.eq_iff,
    Pi.zero_apply, Finsupp.zero_apply, Nat.zero_add]
  rfl
/-- and what it owes `c`'s receipt of send `k`. -/
theorem owed_rcv (d c : Dev nD) (k : Fin 3) : O₀ d (rcvCell k c) () = if d = peer k.rev c then N else 0 := by
  have e (k : Fin 3) : (c = peer k d) = (d = peer k.rev c) := propext peer_eq_iff
  unfold O₀ owedB owedR
  simp only [Pi.add_apply, Finsupp.add_apply, tallyAt_apply, kcell_eq_iff, Prod.mk.injEq, reduceCtorEq, CK.rcv.injEq, and_false, and_true, false_and, if_false, e, csem_injective.eq_iff,
    Pi.zero_apply, Finsupp.zero_apply, Nat.zero_add, Nat.add_zero]
  fin_cases k <;> simp [Fin.rev]

/-- A device's barrier is launched with the three units the others owe it; -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]

/-- each of its receipts with one row's credit; -/
theorem launch_rcv (c : Dev nD) (k : Fin 3) :
    tallyOn (rcvCell k c) (launchCredit (Pipeline.owing O₀) 0 (rcvCell k c)) = (tallyAt (rcvCell k c) () N : CellTallies nD τ sig Unit) := by
  unfold tallyAt; refine congrArg _ (Finsupp.ext fun u => ?_); cases u
  rw [Pipeline.launchCredit_owing, Finsupp.single_eq_same, Finset.sum_congr rfl fun d _ => owed_rcv d c k]
  simp only [Finset.sum_ite_eq', Finset.mem_univ, if_true]

/-- and that is the credit the device waits with. -/
theorem creds (c : Dev nD) : (Pipeline.launchCred O₀ c : sProp 𝕄) ⊢ credit c := by
  unfold Pipeline.launchCred credit
  refine BIBase.Entails.trans (BI.bigSep_subset (Finset.subset_univ (Finset.univ.map ⟨csem, csem_injective⟩))) ?_
  rw [bigSep_map, bigSep_CK, bigSep_fin3, ← launch_bar, ← launch_rcv, ← launch_rcv, ← launch_rcv]
  iintro ⟨HB, -, -, -, HR⟩
  isplitl [HB]; · iexact HB
  iexact HR

/-! ## The launch theorem's side conditions -/

/-- What the launch hands a device, gathered into what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' xPts
  iintro ⟨Hx, Hlev, Hcr, -, HG, Hloc⟩
  ihave Hc := (creds (F := F) c) $$ Hcr
  imodintro
  isplitl
  · isplitl [HG]; · iexact HG
    isplitl [Hloc]; · iexact Hloc
    isplitl [Hc]; · iexact Hc
    isplitl [Hlev]; · iexact Hlev
    iexact Hx
  · iempintro

/-- With the scratch buffers it is what holds before the body; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- what holds after the body gives all of it back. -/
theorem phi1_exit (c : Dev nD) :
    (dats m 0 c).Φ (Fin.last cfg0.N) ⊢ iprop((unscopedSems0 c ∗ xPts m c) ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hr, Hloc, Hz, Hx⟩
  ihave Hs := (sems_eq (F := F) c).2 $$ [Hloc Hz]
  · isplitl [Hz] <;> iassumption
  icases Hs with ⟨Hos, Hus⟩
  isplitl [Hus Hx]
  · isplitl [Hus] <;> iassumption
  isplitl [Hos]; · iexact Hos
  iexact Hr

/-- The wait on the result's staging buffer comes below everything a device then owes. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w; fin_cases s; decide) _ (by
      rcases t with ⟨_ | _, ht⟩
      · exact Or.inl rfl
      · exact Or.inr rfl)

/-- At the end a device reads that its unscoped counters are at zero and its input block is as launched. -/
theorem final_read (c : Dev nD) (s' : Phys nD τ sig (Elt F)) :
    (iprop((unscopedSems0 c ∗ xPts m c) ∗ emp ∗ SI s') : sProp 𝕄)
      ⊢ |={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)⌝ ∗ SI s') := by
  iintro ⟨⟨Hu, Hx⟩, -, HSI⟩
  ihave Hp := (pointsTo_read_all (Finset.univ : Finset Unit) (fun _ => (c : Thread nD τ).loc main_arg0) (fun _ => m ((c : Thread nD τ).loc main_arg0)) s') $$ [Hx HSI]
  · rw [show (Finset.univ : Finset Unit) = {()} from rfl, bigSep_singleton]
    isplitl [Hx]
    · unfold xPts xblk; iexact Hx
    iexact HSI
  icases Hp with ⟨%hx, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hu, hx () (Finset.mem_univ _)⟩
  iexact HSI

/-! ## The run -/

abbrev s₀ : MemSt nD τ sig (Elt F) := ⟨m, fun _ => 0, ρ⟩

/-- The one block written back is the result's whole array, placed at itself; -/
theorem out_place (y : S1x1024.Idx) : (win0_0.rect t₀).emb y = y := funext fun a => Fin.ext (by
  rw [Rect.emb_apply]
  show 0 * S1x1024.size a + 1 * (y a).val = (y a).val
  rw [Nat.zero_mul, Nat.zero_add, Nat.one_mul])
/-- so it ends at what the body left in its staging buffer. -/
theorem out_final (c : Dev nD) : (dats m 0 c).arrAt (0 : Fin 1) cfg0.N = outAt m c := by
  refine (dats m 0 c).arrAt_eq_of_cover (0 : Fin 1) (outAt m c) (fun t _ => ?_) fun i => ⟨t₀, flush0_0 _, ?_⟩
  · rw [fin_N t]
    funext y
    exact congrArg (outAt m c) (out_place y).symm
  · have h := View.emb_mem_set ((cfg0.win (0 : Fin 1)).blk t₀).view i
    rwa [show ((cfg0.win (0 : Fin 1)).blk t₀).view.emb i = i from out_place i] at h

set_option maxRecDepth 8000 in
/-- From any memory with its counters at zero, every weakly fair execution of the four devices' program terminates, with
    each device's result at its gathered maximum, its input block unchanged and every counter at zero. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR (initOf allCells allToks) 1) $$ HX
      icases HX with ⟨HX, -⟩
      ihave HX := own_nested $$ HX
      imod (fund_all m) $$ HX with HG
      imodintro
      isplitl [HP] <;> iassumption)
    (hglob := glob m)
    (hA := fun _ _ => rfl) (hpf := fun _ k => k.elim0)
    (X := start m) (Y := fun c => iprop(unscopedSems0 c ∗ xPts m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := final_read m)
    (hQ := fun _ h hs => ⟨fun c => ⟨((h c).1 0).trans (out_final m c), (h c).2.2.2⟩, sem_eq_zero hs fun c => (h c).2.2.1⟩)

end Cert.KernelIdealProof

end
-- ==== Proof.Value.lean ====
/-
What the gathered maximum computes over the extended reals: on every device, in each column, the largest element of the
whole array's column.

Every reduction here is read through its upper bounds: a maximum is at most `z` exactly when every element it runs over
is. So the order and the grouping in which the kernel takes its maxima, by slab, by device and by gather slot, drop out, and two
results with the same upper bounds are equal.
-/
module

public import proofs.«01_k».proof.Proof.Slots
public import proofs.«01_k».proof.Proof.Gen.ReferenceIdeal
public import Idealize.ShloMosaic.PureOps.Ideal.Laws
public import Idealize.ShloMosaic.Lib.KernelVsHost
public import Idealize.ShloMosaic.Lib.ValueLayout
public import Idealize.ShloMosaic.Lib.Pointwise.Reshape
public import Idealize.ShloMosaic.Lib.Layout

@[expose] public section

noncomputable section

namespace Cert.KernelIdealProof

open Cert.KernelIdeal Cert.KernelIdeal.Gen

open Idealize.ShloMosaic hiding ix1 ix2 ix3
open Idealize.ShloMosaic.ValueIdx
open Idealize.ShloMosaic.TcCoe
open Idealize.SL.Sem

/-! ## A column's maximum, by its upper bounds -/

/-- The maximum down column `l` of an array of `n` rows, taken from −∞, is at most `z` exactly when every element of the
    column is. -/
theorem colMax_le {n : Nat} (x : FVec Ideal ⟨2, ![n, 1024]⟩ .f32) (h : (⟨2, ![n, 1024]⟩ : Shape).Reduces [0] S1024)
    (hφ : FKind.Formats .f32) (hacc : (0xFF800000#32 : BitVec 32) = FKind.maximumf.neutral .f32 hφ) (l : Fin 1024) (z : EReal) :
    multiReduction .maximumf [0] S1024 x 0xFF800000#32 h hφ hacc (ix1 l) ≤ z ↔ ∀ r : Fin n, x (ix2 r l) ≤ z := by
  rw [Ideal.multiReduction_maximumf_single]
  have hb : (FloatOps.ofBits .f32 0xFF800000#32 : Ideal .f32) ≤ z := by
    show Ideal.ofBits .f32 0xFF800000#32 ≤ z
    simp [Ideal.ofBits, Ideal.ieee]
  have hl : ∀ r : Fin n, h.lift (ix1 l) r = ix2 r l := fun r => funext fun a => match a with
    | ⟨0, _⟩ => rfl
    | ⟨1, _⟩ => rfl
  refine (Finset.fold_max_le (b := (FloatOps.ofBits .f32 0xFF800000#32 : Ideal .f32)) z).trans ⟨fun H r => ?_, fun H => ⟨hb, fun r _ => ?_⟩⟩
  · exact (congrArg x (hl r)).symm.trans_le (H.2 r (Finset.mem_univ _))
  · exact (congrArg x (hl r)).trans_le (H r)

/-- The same of the row of maxima over one loaded chunk. -/
theorem chunkMax_le (v : Vec Ideal S1x512x1024 .f32) (l : Fin 1024) (z : EReal) :
    shapeCast S1x1024 (multiReduction (F := Ideal) (φ := .f32) .maximumf [0] S1024 (shapeCast S512x1024 v shapeCasts_S1x512x1024_S512x1024) 0xFF800000#32
      reduces_S512x1024_S1024 (.inl rfl) rfl) shapeCasts_S1024_S1x1024 (ix2 0 l) ≤ z ↔ ∀ r : Fin 512, v (ix3 0 r l) ≤ z := by
  rw [shapeCast_a_1a_apply]
  refine (colMax_le _ _ _ _ l z).trans (forall_congr' fun r => ?_)
  rw [shapeCast_1ab_ab_apply]

/-! ## The kernel's payloads -/

variable (m : (ℓ : Loc nD τ sig) → Buf (Elt Ideal) ℓ)

/-- A device's block of the input, and its result, as arrays of extended reals. -/
abbrev blk (c : Dev nD) : FVec Ideal S4096x1024 .f32 := xblk m c
abbrev outRow (c : Dev nD) : FVec Ideal S1x1024 .f32 := outAt m c

/-- Slab `k` of a device's block starts at row `512 k`. -/
theorem chunkV_apply (c : Dev nD) (k : Fin 8) (r : Fin 512) (l : Fin 1024) :
    chunkV m c k (ix3 0 r l) = blk m c (ix2 (⟨512 * k.val + r.val, by omega⟩ : Fin 4096) l) := by
  unfold chunkV
  rw [shapeCast_ab_1ab_apply]
  show blk m c ((slabR k).emb (ix2 r l)) = _
  congr 1
  funext a
  refine Fin.ext ?_
  rw [Rect.emb_apply]
  match a with
  | ⟨0, _⟩ => show 512 * k.val + 1 * r.val = 512 * k.val + r.val; omega
  | ⟨1, _⟩ => show 0 + 1 * l.val = l.val; omega

/-- A device's own row of maxima, by its upper bounds: they are those of its block's columns. -/
theorem part_le (c : Dev nD) (l : Fin 1024) (z : EReal) :
    (part m c (ix3 0 0 l) : EReal) ≤ z ↔ ∀ r : Fin 4096, (blk m c (ix2 r l) : EReal) ≤ z := by
  have cm : ∀ k : Fin 8, _ ↔ ∀ r : Fin 512, (blk m c (ix2 (⟨512 * k.val + r.val, by omega⟩ : Fin 4096) l) : EReal) ≤ z := fun k =>
    (chunkMax_le (chunkV m c k) l z).trans (forall_congr' fun r => by rw [chunkV_apply])
  have two : ∀ {x y : EReal} {p q : Prop}, (x ≤ z ↔ p) → (y ≤ z ↔ q) → (max x y ≤ z ↔ p ∧ q) := fun hx hy => max_le_iff.trans (and_congr hx hy)
  unfold part k0_pay5 k0_pay4 k0_pay3 k0_pay2 k0_pay1
  rw [shapeCast_ab_1ab_apply]
  refine (two (two (two (two (two (two (two (cm 0) (cm 1)) (cm 2)) (cm 3)) (cm 4)) (cm 5)) (cm 6)) (cm 7)).trans ?_
  constructor
  · rintro ⟨⟨⟨⟨⟨⟨⟨h0, h1⟩, h2⟩, h3⟩, h4⟩, h5⟩, h6⟩, h7⟩ r
    have key : ∀ k : Fin 8, ∀ s : Fin 512, (blk m c (ix2 (⟨512 * k.val + s.val, by omega⟩ : Fin 4096) l) : EReal) ≤ z
      | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7
    have hr := key ⟨r.val / 512, by omega⟩ ⟨r.val % 512, by omega⟩
    have e : (⟨512 * (r.val / 512) + r.val % 512, by omega⟩ : Fin 4096) = r := Fin.ext (by dsimp only; omega)
    rwa [e] at hr
  · intro h
    exact ⟨⟨⟨⟨⟨⟨⟨fun _ => h _, fun _ => h _⟩, fun _ => h _⟩, fun _ => h _⟩, fun _ => h _⟩, fun _ => h _⟩, fun _ => h _⟩, fun _ => h _⟩

/-- The kernel's result on a device, by its upper bounds: those of the columns of all four blocks, for the four gather slots
    hold the rows of the four devices. -/
theorem outAt_le (c : Dev nD) (l : Fin 1024) (z : EReal) :
    (outRow m c (ix2 0 l) : EReal) ≤ z ↔ ∀ (d : Dev nD) (r : Fin 4096), (blk m d (ix2 r l) : EReal) ≤ z := by
  have hs : ∀ d : Dev nD, ∃ s : Fin 4, sender c s = d := by revert c; decide
  have hg : ∀ s : Fin 4, shapeCast S4x1024 (gat m c) shapeCasts_S4x1x1024_S4x1024 (ix2 s l) = part m (sender c s) (ix3 0 0 l) := by
    intro s
    have e : inSlot (ix3 s 0 l) = ix3 0 0 l := funext fun a => match a with | ⟨0, _⟩ => rfl | ⟨1, _⟩ => rfl | ⟨2, _⟩ => rfl
    refine (shapeCast_apply _ _ _ (ix3 s 0 l) ?_).trans (congrArg (part m (sender c s)) e)
    rw [Shape.rowMajor_val_two, Shape.rowMajor_val_three]
    show (s.val * 1 + 0) * 1024 + l.val = s.val * 1024 + l.val
    omega
  unfold outRow outAt k0_pay6
  rw [shapeCast_a_1a_apply]
  refine (colMax_le _ _ _ _ l z).trans ?_
  constructor
  · intro h d
    obtain ⟨s, rfl⟩ := hs d
    have := h s
    rw [hg] at this
    exact (part_le m _ l z).mp this
  · intro h s
    rw [hg]
    exact (part_le m _ l z).mpr (h _)

/-! ## The reference, and the two together -/

/-- The reference's result from the whole array `X`. -/
abbrev refRow (X : FVec Ideal Cert.ReferenceIdeal.S16384x1024 .f32) : FVec Ideal Cert.ReferenceIdeal.S1x1024 .f32 :=
  broadcastInDim Cert.ReferenceIdeal.S1x1024 ![1] Cert.ReferenceIdeal.Gen.bcast_S1024_S1x1024_1
    (Host.reduce (FloatOps.maximumf (F := Ideal) (φ := .f32)) X (constant (F := Ideal) Cert.ReferenceIdeal.S_ .f32 0xFF800000#32)
      Cert.ReferenceIdeal.Gen.reducesTo_S16384x1024_S1024_d0 Cert.ReferenceIdeal.Gen.h_S_)

/-- The reference's result, by its upper bounds: those of the whole array's columns. -/
theorem ref_le (X : FVec Ideal Cert.ReferenceIdeal.S16384x1024 .f32) (l : Fin 1024) (z : EReal) :
    refRow X (ix2 0 l) ≤ z
      ↔ ∀ R : Fin 16384, (X (ix2 R l) : EReal) ≤ z := by
  have hk : Cert.ReferenceIdeal.S16384x1024.Reduces [0] Cert.ReferenceIdeal.S1024 := by decide
  unfold refRow
  rw [hostReduce_maximumf_eq_multiReduction X 0xFF800000#32 _ _ hk (.inl rfl) rfl]
  have e : ∀ y : FVec Ideal Cert.ReferenceIdeal.S1024 .f32,
      broadcastInDim Cert.ReferenceIdeal.S1x1024 ![1] Cert.ReferenceIdeal.Gen.bcast_S1024_S1x1024_1 y (ix2 0 l) = y (ix1 l) := fun y =>
    congrArg y (funext fun a => match a with | ⟨0, _⟩ => rfl)
  rw [e]
  exact colMax_le X hk _ _ l z

/-- Device `d`'s rows of an array cut over the four devices are rows `4096 d` and on of the whole; -/
theorem block_row (X : FVec Ideal Cert.ReferenceIdeal.S16384x1024 .f32) (d : Dev nD) (r : Fin 4096) (l : Fin 1024) :
    Layout.block ⟨2, ![4096, 1024]⟩ ⟨2, ![16384, 1024]⟩ 0 4 d X (by decide) (ix2 r l)
      = X (ix2 (⟨d.val * 4096 + r.val, by have h : d.val < 4 := d.isLt; omega⟩ : Fin 16384) l) :=
  congrArg X (funext fun a => match a with | ⟨0, _⟩ => rfl | ⟨1, _⟩ => rfl)

/-- and every row of the whole is a row of one of them. -/
theorem all_rows (f : Fin 16384 → Prop) :
    (∀ (d : Dev nD) (r : Fin 4096), f ⟨d.val * 4096 + r.val, by have h : d.val < 4 := d.isLt; omega⟩) ↔ ∀ R, f R := by
  refine ⟨fun h R => ?_, fun h _ _ => h _⟩
  have := h (⟨R.val / 4096, by show R.val / 4096 < 4; omega⟩ : Dev nD) ⟨R.val % 4096, by omega⟩
  have e : (⟨R.val / 4096 * 4096 + R.val % 4096, by omega⟩ : Fin 16384) = R := Fin.ext (by dsimp only; omega)
  rwa [e] at this

/-- The equation: where each device holds its block of the whole array `X`, every device's result is the reference's. -/
theorem outAt_eq (X : FVec Ideal Cert.ReferenceIdeal.S16384x1024 .f32)
    (hX : ∀ c : Dev nD, m ((c : Thread nD τ).loc main_arg0) = Layout.block ⟨2, ![4096, 1024]⟩ ⟨2, ![16384, 1024]⟩ 0 4 c X (by decide)) (c : Dev nD) :
    outAt m c = refRow X := by
  funext j
  have hj : j = ix2 (0 : Fin 1) (j 1 : Fin 1024) := funext fun a => match a with
    | ⟨0, _⟩ => Subsingleton.elim (α := Fin 1) _ _
    | ⟨1, _⟩ => rfl
  rw [hj]
  refine eq_of_forall_ge_iff (α := EReal) fun z => ?_
  refine (outAt_le m c (j 1) z).trans (Iff.trans ?_ (ref_le X (j 1) z).symm)
  rw [← all_rows fun R => (X (ix2 R (j 1 : Fin 1024)) : EReal) ≤ z]
  refine forall_congr' fun d => forall_congr' fun r => ?_
  have e : blk m d (ix2 r (j 1 : Fin 1024)) = _ := (congrFun (hX d) _).trans (block_row X d r (j 1))
  rw [e]

end Cert.KernelIdealProof

end
-- ==== Proof.lean ====
/- The five claims about the gathered maximum over four devices: the kernel, its reading over the extended reals and the
   reference each run to the end, leave their arguments unchanged and every counter at zero; the second is the first read
   over the extended reals; and it computes what the reference computes. -/
module

public import proofs.«01_k».proof.Defs
public import proofs.«01_k».proof.Proof.Gen.ReferenceIdeal.Run
public import proofs.«01_k».proof.Proof.KernelLaunch
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel on the machine's words runs, keeps its argument and ends quiet: its run with the result's value dropped. -/
theorem kernel_quiet : quiescent_Kernel (hKernel := Cert.Kernel.Gen.facts) := fun m g _ =>
  (θ_run _ _ _).mono (fun _ h => ⟨fun c => (h.1 c).2, h.2⟩) (Cert.KernelProof.run_main m g)

/-- The same over the extended reals. -/
theorem kernelIdeal_quiet : quiescent_KernelIdeal (hKernelIdeal := Cert.KernelIdeal.Gen.facts) := fun m g _ =>
  (θ_run _ _ _).mono (fun _ h => ⟨fun c => (h.1 c).2, h.2⟩) (Cert.KernelIdealProof.run_main m g)

/-- The same of the reference, which has no semaphores. -/
theorem reference_quiet : quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- Over the extended reals every device ends with the reference's result: both runs are known, and their results are equal. -/
theorem same_value : algebraic_KernelIdeal_ReferenceIdeal (hKernelIdeal := Cert.KernelIdeal.Gen.facts)
    (hReferenceIdeal := Cert.ReferenceIdeal.Gen.facts) := fun m g m' g' _ hX =>
  ⟨Cert.KernelIdealProof.refRow (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans (Cert.KernelIdealProof.outAt_eq m _ hX c), (h.1 c).2⟩) (Cert.KernelIdealProof.run_main m g),
    (θ_run _ _ _).mono (fun _ h => h 0) (Cert.ReferenceIdeal.Value.run (F := Ideal) m' g')⟩

/-- All five claims, with the programs' side conditions. -/
theorem claim : Cert.Claim := ⟨Cert.Kernel.Gen.facts, Cert.KernelIdeal.Gen.facts, Cert.ReferenceIdeal.Gen.facts,
  kernel_quiet, kernelIdeal_quiet, reference_quiet, trivial, same_value⟩

end Cert.Proof

end
